-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "half_sqrt" .bf16 0x3F35#16 ((11863283 / 16777216 : ℝ) : EReal)
  ∧ IdealRules.named_const.Statement Cert.KernelIdeal.κ "half_sqrt" .f32 0x3F3504F3#32 ((11863283 / 16777216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v414) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S6x768 : Shape := ⟨2, ![6, 768]⟩
abbrev S5x3072x768 : Shape := ⟨3, ![5, 3072, 768]⟩
abbrev S5x3072 : Shape := ⟨2, ![5, 3072]⟩
abbrev S5x768x3072 : Shape := ⟨3, ![5, 768, 3072]⟩
abbrev S5x768 : Shape := ⟨2, ![5, 768]⟩
abbrev S8192x768 : Shape := ⟨2, ![8192, 768]⟩
abbrev S4x8x768 : Shape := ⟨3, ![4, 8, 768]⟩
abbrev S32x768 : Shape := ⟨2, ![32, 768]⟩
abbrev S_ : Shape := ⟨0, ![]⟩
abbrev S8x768 : Shape := ⟨2, ![8, 768]⟩
abbrev S1x8x1x768 : Shape := ⟨4, ![1, 8, 1, 768]⟩
abbrev S4x8x1x768 : Shape := ⟨4, ![4, 8, 1, 768]⟩
abbrev S1x3072 : Shape := ⟨2, ![1, 3072]⟩
abbrev S1x768 : Shape := ⟨2, ![1, 768]⟩
abbrev S512x768 : Shape := ⟨2, ![512, 768]⟩
abbrev S32x3072 : Shape := ⟨2, ![32, 3072]⟩
abbrev S384x768 : Shape := ⟨2, ![384, 768]⟩
abbrev S1x384x768 : Shape := ⟨3, ![1, 384, 768]⟩
abbrev S96x3072 : Shape := ⟨2, ![96, 3072]⟩
abbrev S1x96x3072 : Shape := ⟨3, ![1, 96, 3072]⟩
abbrev S512x3072 : Shape := ⟨2, ![512, 3072]⟩
abbrev S32 : Shape := ⟨1, ![32]⟩
abbrev S32x1 : Shape := ⟨2, ![32, 1]⟩
abbrev S1x5 : Shape := ⟨2, ![1, 5]⟩
abbrev S8x1 : Shape := ⟨2, ![8, 1]⟩

abbrev nBuf : Space → Nat
  | .hbm => 23
  | .vmem => 18
  | .smem => 0
  | _ => 0

abbrev bufTy : (tb : Table) → Fin (tcTables nBuf tb) → BufTy
  | .hbm, ⟨0, _⟩ => ⟨S4x2048x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S6x768, .f32⟩
  | .hbm, ⟨6, _⟩ => ⟨S5x3072x768, .f32⟩
  | .hbm, ⟨7, _⟩ => ⟨S5x3072, .f32⟩
  | .hbm, ⟨8, _⟩ => ⟨S5x768x3072, .f32⟩
  | .hbm, ⟨9, _⟩ => ⟨S5x768, .f32⟩
  | .hbm, ⟨10, _⟩ => ⟨S8192x768, .f32⟩
  | .hbm, ⟨11, _⟩ => ⟨S4x8x768, .f32⟩
  | .hbm, ⟨12, _⟩ => ⟨S32x768, .f32⟩
  | .hbm, ⟨13, _⟩ => ⟨S_, .i32⟩
  | .hbm, ⟨14, _⟩ => ⟨S_, .f32⟩
  | .hbm, ⟨15, _⟩ => ⟨S8x768, .f32⟩
  | .hbm, ⟨16, _⟩ => ⟨S1x8x1x768, .f32⟩
  | .hbm, ⟨17, _⟩ => ⟨S4x8x1x768, .f32⟩
  | .hbm, ⟨18, _⟩ => ⟨S32x768, .f32⟩
  | .hbm, ⟨19, _⟩ => ⟨S1x3072, .f32⟩
  | .hbm, ⟨20, _⟩ => ⟨S1x768, .f32⟩
  | .hbm, ⟨21, _⟩ => ⟨S8192x768, .f32⟩
  | .hbm, ⟨22, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S3072x768, .f32⟩
  | .local _ .vmem, ⟨3, _⟩ => ⟨S1x3072, .f32⟩
  | .local _ .vmem, ⟨4, _⟩ => ⟨S768x3072, .f32⟩
  | .local _ .vmem, ⟨5, _⟩ => ⟨S1x768, .f32⟩
  | .local _ .vmem, ⟨6, _⟩ => ⟨S32x768, .f32⟩
  | .local _ .vmem, ⟨7, _⟩ => ⟨S32x768, .f32⟩
  | .local _ .vmem, ⟨8, _⟩ => ⟨S5x3072, .f32⟩
  | .local _ .vmem, ⟨9, _⟩ => ⟨S5x768, .f32⟩
  | .local _ .vmem, ⟨10, _⟩ => ⟨S512x768, .f32⟩
  | .local _ .vmem, ⟨11, _⟩ => ⟨S512x768, .f32⟩
  | .local _ .vmem, ⟨12, _⟩ => ⟨S3072x768, .bf16⟩
  | .local _ .vmem, ⟨13, _⟩ => ⟨S768x3072, .bf16⟩
  | .local _ .vmem, ⟨14, _⟩ => ⟨S3072x768, .f32⟩
  | .local _ .vmem, ⟨15, _⟩ => ⟨S768x3072, .f32⟩
  | .local _ .vmem, ⟨16, _⟩ => ⟨S32x3072, .f32⟩
  | .local _ .vmem, ⟨17, _⟩ => ⟨S32x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_c : Ref sig .tc := ⟨.hbm, 13, rfl⟩
abbrev main_call0_call0_v0 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32_23 : BitVec 32 := 1#32
  let v46 : BitVec 32 := Scalar.subi arg0 c1_i32_23
  let c0_i32_24 : BitVec 32 := 0#32
  let v47 : BitVec 1 := Scalar.cmpi .sge v46 c0_i32_24
  let c1_i32_25 : BitVec 32 := 1#32
  let v48 : BitVec 32 := Scalar.subi arg0 c1_i32_25
  let c1_i32_26 : BitVec 32 := 1#32
  let c0_i32_27 : BitVec 32 := 0#32
  let v49 : BitVec 1 := Scalar.cmpi .eq c1_i32_26 c0_i32_27
  let c1_i32_28 : BitVec 32 := 1#32
  let v50 : BitVec 32 := Scalar.select v49 c1_i32_28 c1_i32_26
  let v51 : BitVec 32 := Scalar.remsi v48 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c0_i32_32 : BitVec 32 := 0#32
  let v59 : BitVec 1 := Scalar.cmpi .eq v58 c0_i32_32
  let v60 : BitVec 1 := Scalar.andi v47 v59
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c10_i32 : BitVec 32 := 10#32
  let v61 : BitVec 1 := Scalar.cmpi .slt v45 c10_i32
  let v62 : BitVec 1 := Scalar.andi v60 v61
  let c5_i32 : BitVec 32 := 5#32
  let v63 : BitVec 1 := Scalar.cmpi .slt v45 c5_i32
  let v64 : BitVec 1 := Scalar.andi v62 v63
  let v65 : BitVec 32 := Scalar.extui v64
  let c0_i32_33 : BitVec 32 := 0#32
  let v66 : BitVec 1 := Scalar.cmpi .ne v65 c0_i32_33
  v66

def k0_off1 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c0_i32_39 : BitVec 32 := 0#32
  let c0_i32_40 : BitVec 32 := 0#32
  ![v45.toNat, 0, 0]
def k0_off2 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c384_i32_42 : BitVec 32 := 384#32
  let c0_i32_43 : BitVec 32 := 0#32
  ![v45.toNat, 384, 0]
def k0_off3 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c768_i32_45 : BitVec 32 := 768#32
  let c0_i32_46 : BitVec 32 := 0#32
  ![v45.toNat, 768, 0]
def k0_off4 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1152_i32_48 : BitVec 32 := 1152#32
  let c0_i32_49 : BitVec 32 := 0#32
  ![v45.toNat, 1152, 0]
def k0_off5 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1536_i32_51 : BitVec 32 := 1536#32
  let c0_i32_52 : BitVec 32 := 0#32
  ![v45.toNat, 1536, 0]
def k0_off6 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1920_i32_54 : BitVec 32 := 1920#32
  let c0_i32_55 : BitVec 32 := 0#32
  ![v45.toNat, 1920, 0]
def k0_off7 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c2304_i32_57 : BitVec 32 := 2304#32
  let c0_i32_58 : BitVec 32 := 0#32
  ![v45.toNat, 2304, 0]
def k0_off8 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c2688_i32_60 : BitVec 32 := 2688#32
  let c0_i32_61 : BitVec 32 := 0#32
  ![v45.toNat, 2688, 0]
def k0_cond5 (i : grid0.Coords) : BitVec 1 :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c4_i32 : BitVec 32 := 4#32
  let v201 : BitVec 1 := Scalar.cmpi .slt v45 c4_i32
  let v202 : BitVec 32 := Scalar.extui v201
  let c0_i32_100 : BitVec 32 := 0#32
  let v203 : BitVec 1 := Scalar.cmpi .ne v202 c0_i32_100
  v203

def k0_off9 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c0_i32_104 : BitVec 32 := 0#32
  let c0_i32_105 : BitVec 32 := 0#32
  ![v204.toNat, 0, 0]
def k0_off10 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c384_i32_108 : BitVec 32 := 384#32
  let c0_i32_109 : BitVec 32 := 0#32
  ![v204.toNat, 384, 0]
def k0_off11 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c768_i32_112 : BitVec 32 := 768#32
  let c0_i32_113 : BitVec 32 := 0#32
  ![v204.toNat, 768, 0]
def k0_off12 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c1152_i32_116 : BitVec 32 := 1152#32
  let c0_i32_117 : BitVec 32 := 0#32
  ![v204.toNat, 1152, 0]
def k0_off13 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c1536_i32_120 : BitVec 32 := 1536#32
  let c0_i32_121 : BitVec 32 := 0#32
  ![v204.toNat, 1536, 0]
def k0_off14 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c1920_i32_124 : BitVec 32 := 1920#32
  let c0_i32_125 : BitVec 32 := 0#32
  ![v204.toNat, 1920, 0]
def k0_off15 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c2304_i32_128 : BitVec 32 := 2304#32
  let c0_i32_129 : BitVec 32 := 0#32
  ![v204.toNat, 2304, 0]
def k0_off16 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c1_i32_101 : BitVec 32 := 1#32
  let v204 : BitVec 32 := Scalar.addi v45 c1_i32_101
  let c2688_i32_132 : BitVec 32 := 2688#32
  let c0_i32_133 : BitVec 32 := 0#32
  ![v204.toNat, 2688, 0]
def k0_cond6 (i : grid0.Coords) : BitVec 1 :=
  let arg0 : BitVec 32 := BitVec.ofNat 32 (i 0).val
  let c1_i32_23 : BitVec 32 := 1#32
  let v46 : BitVec 32 := Scalar.subi arg0 c1_i32_23
  let c0_i32_24 : BitVec 32 := 0#32
  let v47 : BitVec 1 := Scalar.cmpi .sge v46 c0_i32_24
  let c1_i32_25 : BitVec 32 := 1#32
  let v48 : BitVec 32 := Scalar.subi arg0 c1_i32_25
  let c1_i32_26 : BitVec 32 := 1#32
  let c0_i32_27 : BitVec 32 := 0#32
  let v49 : BitVec 1 := Scalar.cmpi .eq c1_i32_26 c0_i32_27
  let c1_i32_28 : BitVec 32 := 1#32
  let v50 : BitVec 32 := Scalar.select v49 c1_i32_28 c1_i32_26
  let v51 : BitVec 32 := Scalar.remsi v48 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c0_i32_32 : BitVec 32 := 0#32
  let v59 : BitVec 1 := Scalar.cmpi .eq v58 c0_i32_32
  let v60 : BitVec 1 := Scalar.andi v47 v59
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c10_i32 : BitVec 32 := 10#32
  let v61 : BitVec 1 := Scalar.cmpi .slt v45 c10_i32
  let v62 : BitVec 1 := Scalar.andi v60 v61
  let c5_i32_34 : BitVec 32 := 5#32
  let v67 : BitVec 1 := Scalar.cmpi .sge v45 c5_i32_34
  let v68 : BitVec 1 := Scalar.andi v62 v67
  let v69 : BitVec 32 := Scalar.extui v68
  let c0_i32_35 : BitVec 32 := 0#32
  let v70 : BitVec 1 := Scalar.cmpi .ne v69 c0_i32_35
  v70

def k0_off17 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c0_i32_40 : BitVec 32 := 0#32
  let c0_i32_41 : BitVec 32 := 0#32
  ![v74.toNat, 0, 0]
def k0_off18 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c96_i32_43 : BitVec 32 := 96#32
  let c0_i32_44 : BitVec 32 := 0#32
  ![v74.toNat, 96, 0]
def k0_off19 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c192_i32_46 : BitVec 32 := 192#32
  let c0_i32_47 : BitVec 32 := 0#32
  ![v74.toNat, 192, 0]
def k0_off20 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c288_i32_49 : BitVec 32 := 288#32
  let c0_i32_50 : BitVec 32 := 0#32
  ![v74.toNat, 288, 0]
def k0_off21 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c384_i32_52 : BitVec 32 := 384#32
  let c0_i32_53 : BitVec 32 := 0#32
  ![v74.toNat, 384, 0]
def k0_off22 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c480_i32_55 : BitVec 32 := 480#32
  let c0_i32_56 : BitVec 32 := 0#32
  ![v74.toNat, 480, 0]
def k0_off23 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c576_i32_58 : BitVec 32 := 576#32
  let c0_i32_59 : BitVec 32 := 0#32
  ![v74.toNat, 576, 0]
def k0_off24 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c672_i32_61 : BitVec 32 := 672#32
  let c0_i32_62 : BitVec 32 := 0#32
  ![v74.toNat, 672, 0]
def k0_cond9 (i : grid0.Coords) : BitVec 1 :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c4_i32 : BitVec 32 := 4#32
  let v199 : BitVec 1 := Scalar.cmpi .slt v74 c4_i32
  let v200 : BitVec 32 := Scalar.extui v199
  let c0_i32_99 : BitVec 32 := 0#32
  let v201 : BitVec 1 := Scalar.cmpi .ne v200 c0_i32_99
  v201

def k0_off25 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c0_i32_103 : BitVec 32 := 0#32
  let c0_i32_104 : BitVec 32 := 0#32
  ![v202.toNat, 0, 0]
def k0_off26 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c96_i32_107 : BitVec 32 := 96#32
  let c0_i32_108 : BitVec 32 := 0#32
  ![v202.toNat, 96, 0]
def k0_off27 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c192_i32_111 : BitVec 32 := 192#32
  let c0_i32_112 : BitVec 32 := 0#32
  ![v202.toNat, 192, 0]
def k0_off28 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c288_i32_115 : BitVec 32 := 288#32
  let c0_i32_116 : BitVec 32 := 0#32
  ![v202.toNat, 288, 0]
def k0_off29 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c384_i32_119 : BitVec 32 := 384#32
  let c0_i32_120 : BitVec 32 := 0#32
  ![v202.toNat, 384, 0]
def k0_off30 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c480_i32_123 : BitVec 32 := 480#32
  let c0_i32_124 : BitVec 32 := 0#32
  ![v202.toNat, 480, 0]
def k0_off31 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c576_i32_127 : BitVec 32 := 576#32
  let c0_i32_128 : BitVec 32 := 0#32
  ![v202.toNat, 576, 0]
def k0_off32 (i : grid0.Coords) : Fin 3 → Nat :=
  let arg0 : BitVec 32 := BitVec.ofNat 32 (i 0).val
  let c1_i32 : BitVec 32 := 1#32
  let v28 : BitVec 32 := Scalar.subi arg0 c1_i32
  let c0_i32_17 : BitVec 32 := 0#32
  let v30 : BitVec 1 := Scalar.cmpi .sgt v28 c0_i32_17
  let v31 : BitVec 32 := Scalar.extui v30
  let c0_i32_18 : BitVec 32 := 0#32
  let v32 : BitVec 1 := Scalar.cmpi .slt v28 c0_i32_18
  let v33 : BitVec 32 := Scalar.extui v32
  let v34 : BitVec 32 := Scalar.subi v31 v33
  let c1_i32_16 : BitVec 32 := 1#32
  let c0_i32_19 : BitVec 32 := 0#32
  let v35 : BitVec 1 := Scalar.cmpi .sgt c1_i32_16 c0_i32_19
  let v36 : BitVec 32 := Scalar.extui v35
  let c0_i32_20 : BitVec 32 := 0#32
  let v37 : BitVec 1 := Scalar.cmpi .slt c1_i32_16 c0_i32_20
  let v38 : BitVec 32 := Scalar.extui v37
  let v39 : BitVec 32 := Scalar.subi v36 v38
  let v40 : BitVec 1 := Scalar.cmpi .ne v34 v39
  let v41 : BitVec 32 := Scalar.remsi v28 c1_i32_16
  let c0_i32_21 : BitVec 32 := 0#32
  let v42 : BitVec 1 := Scalar.cmpi .ne v41 c0_i32_21
  let v43 : BitVec 1 := Scalar.andi v40 v42
  let v29 : BitVec 32 := Scalar.divsi v28 c1_i32_16
  let c1_i32_22 : BitVec 32 := 1#32
  let v44 : BitVec 32 := Scalar.subi v29 c1_i32_22
  let v45 : BitVec 32 := Scalar.select v43 v44 v29
  let c5_i32_37 : BitVec 32 := 5#32
  let v74 : BitVec 32 := Scalar.subi v45 c5_i32_37
  let c1_i32_100 : BitVec 32 := 1#32
  let v202 : BitVec 32 := Scalar.addi v74 c1_i32_100
  let c672_i32_131 : BitVec 32 := 672#32
  let c0_i32_132 : BitVec 32 := 0#32
  ![v202.toNat, 672, 0]
def k0_cond10 (i : grid0.Coords) : BitVec 1 :=
  let arg0 : BitVec 32 := BitVec.ofNat 32 (i 0).val
  let c12_i32 : BitVec 32 := 12#32
  let v71 : BitVec 1 := Scalar.cmpi .sge arg0 c12_i32
  let v72 : BitVec 32 := Scalar.extui v71
  let c0_i32_36 : BitVec 32 := 0#32
  let v73 : BitVec 1 := Scalar.cmpi .ne v72 c0_i32_36
  v73

def k0_off33 (i : grid0.Coords) : Fin 2 → Nat :=
  let arg0 : BitVec 32 := BitVec.ofNat 32 (i 0).val
  let c12_i32_37 : BitVec 32 := 12#32
  let v74 : BitVec 32 := Scalar.subi arg0 c12_i32_37
  let c8_i32 : BitVec 32 := 8#32
  let v75 : BitVec 32 := Scalar.muli v74 c8_i32
  let v76 : Index := Scalar.indexCast v75
  let c0_38 : Index := 0#32
  ![v76.toNat, 0]
def cc0_transform_0 (i : grid0.Coords) : Fin 2 → Nat :=
  let arg0 : BitVec 32 := BitVec.ofNat 32 (i 0).val
  let c12_i32 : BitVec 32 := 12#32
  let v0 : BitVec 1 := Scalar.cmpi .slt arg0 c12_i32
  let c3_i32 : BitVec 32 := 3#32
  let v1 : BitVec 32 := Scalar.divsi arg0 c3_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c1_i32_10 : BitVec 32 := 1#32
  let v30 : BitVec 32 := Scalar.addi v29 c1_i32_10
  let c12_i32_11 : BitVec 32 := 12#32
  let v31 : BitVec 32 := Scalar.subi arg0 c12_i32_11
  let c4_i32_12 : BitVec 32 := 4#32
  let v32 : BitVec 32 := Scalar.muli v31 c4_i32_12
  let v33 : BitVec 32 := Scalar.select v0 v30 v32
  let c0_i32_13 : BitVec 32 := 0#32
  let c0_i32_14 : BitVec 32 := 0#32
  ![v33.toNat, c0_i32_13.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c12_i32 : BitVec 32 := 12#32
  let v0 : BitVec 1 := Scalar.cmpi .slt arg0 c12_i32
  let c3_i32 : BitVec 32 := 3#32
  let v1 : BitVec 32 := Scalar.divsi arg0 c3_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c1_i32_10 : BitVec 32 := 1#32
  let v30 : BitVec 32 := Scalar.addi v29 c1_i32_10
  let c12_i32_11 : BitVec 32 := 12#32
  let v31 : BitVec 32 := Scalar.subi arg0 c12_i32_11
  let c4_i32_12 : BitVec 32 := 4#32
  let v32 : BitVec 32 := Scalar.muli v31 c4_i32_12
  let v33 : BitVec 32 := Scalar.select v0 v30 v32
  let c0_i32_13 : BitVec 32 := 0#32
  let c0_i32_14 : BitVec 32 := 0#32
  ![v33.toNat, c0_i32_13.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "half_sqrt" => some ((11863283 / 16777216 : ℝ) : EReal)
  | _ => none
-- ==== ReferenceIdeal.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S6x768 : Shape := ⟨2, ![6, 768]⟩
abbrev S5x3072x768 : Shape := ⟨3, ![5, 3072, 768]⟩
abbrev S5x3072 : Shape := ⟨2, ![5, 3072]⟩
abbrev S5x768x3072 : Shape := ⟨3, ![5, 768, 3072]⟩
abbrev S5x768 : Shape := ⟨2, ![5, 768]⟩
abbrev S6 : Shape := ⟨1, ![6]⟩
abbrev S4x6x768 : Shape := ⟨3, ![4, 6, 768]⟩
abbrev S4x2042x768 : Shape := ⟨3, ![4, 2042, 768]⟩
abbrev S4x2042x3072 : Shape := ⟨3, ![4, 2042, 3072]⟩
abbrev S1x1x3072 : Shape := ⟨3, ![1, 1, 3072]⟩
abbrev S_ : Shape := ⟨0, ![]⟩
abbrev S1x1x768 : Shape := ⟨3, ![1, 1, 768]⟩
abbrev S6x4 : Shape := ⟨2, ![6, 4]⟩
abbrev S4x6 : Shape := ⟨2, ![4, 6]⟩
abbrev S1x6 : Shape := ⟨2, ![1, 6]⟩
abbrev S24x768 : Shape := ⟨2, ![24, 768]⟩
abbrev S24 : Shape := ⟨1, ![24]⟩
abbrev S24x1 : Shape := ⟨2, ![24, 1]⟩
abbrev S1x3072x768 : Shape := ⟨3, ![1, 3072, 768]⟩
abbrev S24x3072 : Shape := ⟨2, ![24, 3072]⟩
abbrev S1x3072 : Shape := ⟨2, ![1, 3072]⟩
abbrev S1x768x3072 : Shape := ⟨3, ![1, 768, 3072]⟩
abbrev S1x768 : Shape := ⟨2, ![1, 768]⟩

abbrev nBuf : Space → Nat
  | .hbm => 482
  | .vmem => 0
  | .smem => 0
  | _ => 0

abbrev hbmTy0_0 (i : Nat) : BufTy := match i % 128 with
  | 0 => ⟨S4x2048x768, .f32⟩
  | 1 => ⟨S3072x768, .f32⟩
  | 2 => ⟨S3072, .f32⟩
  | 3 => ⟨S768x3072, .f32⟩
  | 4 => ⟨S768, .f32⟩
  | 5 => ⟨S6x768, .f32⟩
  | 6 => ⟨S5x3072x768, .f32⟩
  | 7 => ⟨S5x3072, .f32⟩
  | 8 => ⟨S5x768x3072, .f32⟩
  | 9 => ⟨S5x768, .f32⟩
  | 10 => ⟨S6, .i32⟩
  | 11 => ⟨S6, .i32⟩
  | 12 => ⟨S4x6x768, .f32⟩
  | 13 => ⟨S4x2042x768, .f32⟩
  | 14 => ⟨S768x3072, .f32⟩
  | 15 => ⟨S4x2042x3072, .f32⟩
  | 16 => ⟨S1x1x3072, .f32⟩
  | 17 => ⟨S4x2042x3072, .f32⟩
  | 18 => ⟨S4x2042x3072, .f32⟩
  | 19 => ⟨S_, .f32⟩
  | 20 => ⟨S4x2042x3072, .f32⟩
  | 21 => ⟨S4x2042x3072, .f32⟩
  | 22 => ⟨S4x2042x3072, .f32⟩
  | 23 => ⟨S_, .f32⟩
  | 24 => ⟨S4x2042x3072, .f32⟩
  | 25 => ⟨S4x2042x3072, .f32⟩
  | 26 => ⟨S4x2042x3072, .f32⟩
  | 27 => ⟨S4x2042x3072, .f32⟩
  | 28 => ⟨S3072x768, .f32⟩
  | 29 => ⟨S4x2042x768, .f32⟩
  | 30 => ⟨S1x1x768, .f32⟩
  | 31 => ⟨S4x2042x768, .f32⟩
  | 32 => ⟨S4x2042x768, .f32⟩
  | 33 => ⟨S6x4, .f32⟩
  | 34 => ⟨S4x6, .f32⟩
  | 35 => ⟨S_, .f32⟩
  | 36 => ⟨S4x6, .f32⟩
  | 37 => ⟨S4x6, .i1⟩
  | 38 => ⟨S4x6, .f32⟩
  | 39 => ⟨S4x6, .f32⟩
  | 40 => ⟨S_, .f32⟩
  | 41 => ⟨S4x6, .f32⟩
  | 42 => ⟨S4x6, .f32⟩
  | 43 => ⟨S_, .f32⟩
  | 44 => ⟨S4x6, .f32⟩
  | 45 => ⟨S4x6, .f32⟩
  | 46 => ⟨S_, .f32⟩
  | 47 => ⟨S4x6, .f32⟩
  | 48 => ⟨S4x6, .f32⟩
  | 49 => ⟨S4x6, .f32⟩
  | 50 => ⟨S1x6, .i32⟩
  | 51 => ⟨S1x6, .i32⟩
  | 52 => ⟨S4x6, .i32⟩
  | 53 => ⟨S4x6, .i32⟩
  | 54 => ⟨S4x6, .i32⟩
  | 55 => ⟨S24x768, .f32⟩
  | 56 => ⟨S24, .i32⟩
  | 57 => ⟨S24x1, .f32⟩
  | 58 => ⟨S_, .f32⟩
  | 59 => ⟨S24x768, .f32⟩
  | 60 => ⟨S_, .i32⟩
  | 61 => ⟨S24, .i32⟩
  | 62 => ⟨S24, .i1⟩
  | 63 => ⟨S24x1, .i1⟩
  | 64 => ⟨S1x3072x768, .f32⟩
  | 65 => ⟨S3072x768, .f32⟩
  | 66 => ⟨S768x3072, .f32⟩
  | 67 => ⟨S24x3072, .f32⟩
  | 68 => ⟨S1x3072, .f32⟩
  | 69 => ⟨S3072, .f32⟩
  | 70 => ⟨S1x3072, .f32⟩
  | 71 => ⟨S24x3072, .f32⟩
  | 72 => ⟨S24x3072, .f32⟩
  | 73 => ⟨S_, .f32⟩
  | 74 => ⟨S24x3072, .f32⟩
  | 75 => ⟨S24x3072, .f32⟩
  | 76 => ⟨S24x3072, .f32⟩
  | 77 => ⟨S_, .f32⟩
  | 78 => ⟨S24x3072, .f32⟩
  | 79 => ⟨S24x3072, .f32⟩
  | 80 => ⟨S24x3072, .f32⟩
  | 81 => ⟨S24x3072, .f32⟩
  | 82 => ⟨S1x768x3072, .f32⟩
  | 83 => ⟨S768x3072, .f32⟩
  | 84 => ⟨S3072x768, .f32⟩
  | 85 => ⟨S24x768, .f32⟩
  | 86 => ⟨S1x768, .f32⟩
  | 87 => ⟨S768, .f32⟩
  | 88 => ⟨S1x768, .f32⟩
  | 89 => ⟨S24x768, .f32⟩
  | 90 => ⟨S24x768, .f32⟩
  | 91 => ⟨S24x768, .f32⟩
  | 92 => ⟨S24x768, .f32⟩
  | 93 => ⟨S24x768, .i1⟩
  | 94 => ⟨S24x768, .f32⟩
  | 95 => ⟨S_, .i32⟩
  | 96 => ⟨S24, .i32⟩
  | 97 => ⟨S24, .i1⟩
  | 98 => ⟨S24x1, .i1⟩
  | 99 => ⟨S1x3072x768, .f32⟩
  | 100 => ⟨S3072x768, .f32⟩
  | 101 => ⟨S768x3072, .f32⟩
  | 102 => ⟨S24x3072, .f32⟩
  | 103 => ⟨S1x3072, .f32⟩
  | 104 => ⟨S3072, .f32⟩
  | 105 => ⟨S1x3072, .f32⟩
  | 106 => ⟨S24x3072, .f32⟩
  | 107 => ⟨S24x3072, .f32⟩
  | 108 => ⟨S_, .f32⟩
  | 109 => ⟨S24x3072, .f32⟩
  | 110 => ⟨S24x3072, .f32⟩
  | 111 => ⟨S24x3072, .f32⟩
  | 112 => ⟨S_, .f32⟩
  | 113 => ⟨S24x3072, .f32⟩
  | 114 => ⟨S24x3072, .f32⟩
  | 115 => ⟨S24x3072, .f32⟩
  | 116 => ⟨S24x3072, .f32⟩
  | 117 => ⟨S1x768x3072, .f32⟩
  | 118 => ⟨S768x3072, .f32⟩
  | 119 => ⟨S3072x768, .f32⟩
  | 120 => ⟨S24x768, .f32⟩
  | 121 => ⟨S1x768, .f32⟩
  | 122 => ⟨S768, .f32⟩
  | 123 => ⟨S1x768, .f32⟩
  | 124 => ⟨S24x768, .f32⟩
  | 125 => ⟨S24x768, .f32⟩
  | 126 => ⟨S24x768, .f32⟩
  | 127 => ⟨S24x768, .f32⟩
  | _ => ⟨S4x2048x768, .f32⟩

abbrev hbmTy0_1 (i : Nat) : BufTy := match i % 128 with
  | 0 => ⟨S24x768, .i1⟩
  | 1 => ⟨S24x768, .f32⟩
  | 2 => ⟨S_, .i32⟩
  | 3 => ⟨S24, .i32⟩
  | 4 => ⟨S24, .i1⟩
  | 5 => ⟨S24x1, .i1⟩
  | 6 => ⟨S1x3072x768, .f32⟩
  | 7 => ⟨S3072x768, .f32⟩
  | 8 => ⟨S768x3072, .f32⟩
  | 9 => ⟨S24x3072, .f32⟩
  | 10 => ⟨S1x3072, .f32⟩
  | 11 => ⟨S3072, .f32⟩
  | 12 => ⟨S1x3072, .f32⟩
  | 13 => ⟨S24x3072, .f32⟩
  | 14 => ⟨S24x3072, .f32⟩
  | 15 => ⟨S_, .f32⟩
  | 16 => ⟨S24x3072, .f32⟩
  | 17 => ⟨S24x3072, .f32⟩
  | 18 => ⟨S24x3072, .f32⟩
  | 19 => ⟨S_, .f32⟩
  | 20 => ⟨S24x3072, .f32⟩
  | 21 => ⟨S24x3072, .f32⟩
  | 22 => ⟨S24x3072, .f32⟩
  | 23 => ⟨S24x3072, .f32⟩
  | 24 => ⟨S1x768x3072, .f32⟩
  | 25 => ⟨S768x3072, .f32⟩
  | 26 => ⟨S3072x768, .f32⟩
  | 27 => ⟨S24x768, .f32⟩
  | 28 => ⟨S1x768, .f32⟩
  | 29 => ⟨S768, .f32⟩
  | 30 => ⟨S1x768, .f32⟩
  | 31 => ⟨S24x768, .f32⟩
  | 32 => ⟨S24x768, .f32⟩
  | 33 => ⟨S24x768, .f32⟩
  | 34 => ⟨S24x768, .f32⟩
  | 35 => ⟨S24x768, .i1⟩
  | 36 => ⟨S24x768, .f32⟩
  | 37 => ⟨S_, .i32⟩
  | 38 => ⟨S24, .i32⟩
  | 39 => ⟨S24, .i1⟩
  | 40 => ⟨S24x1, .i1⟩
  | 41 => ⟨S1x3072x768, .f32⟩
  | 42 => ⟨S3072x768, .f32⟩
  | 43 => ⟨S768x3072, .f32⟩
  | 44 => ⟨S24x3072, .f32⟩
  | 45 => ⟨S1x3072, .f32⟩
  | 46 => ⟨S3072, .f32⟩
  | 47 => ⟨S1x3072, .f32⟩
  | 48 => ⟨S24x3072, .f32⟩
  | 49 => ⟨S24x3072, .f32⟩
  | 50 => ⟨S_, .f32⟩
  | 51 => ⟨S24x3072, .f32⟩
  | 52 => ⟨S24x3072, .f32⟩
  | 53 => ⟨S24x3072, .f32⟩
  | 54 => ⟨S_, .f32⟩
  | 55 => ⟨S24x3072, .f32⟩
  | 56 => ⟨S24x3072, .f32⟩
  | 57 => ⟨S24x3072, .f32⟩
  | 58 => ⟨S24x3072, .f32⟩
  | 59 => ⟨S1x768x3072, .f32⟩
  | 60 => ⟨S768x3072, .f32⟩
  | 61 => ⟨S3072x768, .f32⟩
  | 62 => ⟨S24x768, .f32⟩
  | 63 => ⟨S1x768, .f32⟩
  | 64 => ⟨S768, .f32⟩
  | 65 => ⟨S1x768, .f32⟩
  | 66 => ⟨S24x768, .f32⟩
  | 67 => ⟨S24x768, .f32⟩
  | 68 => ⟨S24x768, .f32⟩
  | 69 => ⟨S24x768, .f32⟩
  | 70 => ⟨S24x768, .i1⟩
  | 71 => ⟨S24x768, .f32⟩
  | 72 => ⟨S_, .i32⟩
  | 73 => ⟨S24, .i32⟩
  | 74 => ⟨S24, .i1⟩
  | 75 => ⟨S24x1, .i1⟩
  | 76 => ⟨S1x3072x768, .f32⟩
  | 77 => ⟨S3072x768, .f32⟩
  | 78 => ⟨S768x3072, .f32⟩
  | 79 => ⟨S24x3072, .f32⟩
  | 80 => ⟨S1x3072, .f32⟩
  | 81 => ⟨S3072, .f32⟩
  | 82 => ⟨S1x3072, .f32⟩
  | 83 => ⟨S24x3072, .f32⟩
  | 84 => ⟨S24x3072, .f32⟩
  | 85 => ⟨S_, .f32⟩
  | 86 => ⟨S24x3072, .f32⟩
  | 87 => ⟨S24x3072, .f32⟩
  | 88 => ⟨S24x3072, .f32⟩
  | 89 => ⟨S_, .f32⟩
  | 90 => ⟨S24x3072, .f32⟩
  | 91 => ⟨S24x3072, .f32⟩
  | 92 => ⟨S24x3072, .f32⟩
  | 93 => ⟨S24x3072, .f32⟩
  | 94 => ⟨S1x768x3072, .f32⟩
  | 95 => ⟨S768x3072, .f32⟩
  | 96 => ⟨S3072x768, .f32⟩
  | 97 => ⟨S24x768, .f32⟩
  | 98 => ⟨S1x768, .f32⟩
  | 99 => ⟨S768, .f32⟩
  | 100 => ⟨S1x768, .f32⟩
  | 101 => ⟨S24x768, .f32⟩
  | 102 => ⟨S24x768, .f32⟩
  | 103 => ⟨S24x768, .f32⟩
  | 104 => ⟨S24x768, .f32⟩
  | 105 => ⟨S24x768, .i1⟩
  | 106 => ⟨S24x768, .f32⟩
  | 107 => ⟨S_, .i32⟩
  | 108 => ⟨S24, .i32⟩
  | 109 => ⟨S24, .i1⟩
  | 110 => ⟨S24x1, .i1⟩
  | 111 => ⟨S1x3072x768, .f32⟩
  | 112 => ⟨S3072x768, .f32⟩
  | 113 => ⟨S768x3072, .f32⟩
  | 114 => ⟨S24x3072, .f32⟩
  | 115 => ⟨S1x3072, .f32⟩
  | 116 => ⟨S3072, .f32⟩
  | 117 => ⟨S1x3072, .f32⟩
  | 118 => ⟨S24x3072, .f32⟩
  | 119 => ⟨S24x3072, .f32⟩
  | 120 => ⟨S_, .f32⟩
  | 121 => ⟨S24x3072, .f32⟩
  | 122 => ⟨S24x3072, .f32⟩
  | 123 => ⟨S24x3072, .f32⟩
  | 124 => ⟨S_, .f32⟩
  | 125 => ⟨S24x3072, .f32⟩
  | 126 => ⟨S24x3072, .f32⟩
  | 127 => ⟨S24x3072, .f32⟩
  | _ => ⟨S4x2048x768, .f32⟩

abbrev hbmTy0_2 (i : Nat) : BufTy := match i % 128 with
  | 0 => ⟨S24x3072, .f32⟩
  | 1 => ⟨S1x768x3072, .f32⟩
  | 2 => ⟨S768x3072, .f32⟩
  | 3 => ⟨S3072x768, .f32⟩
  | 4 => ⟨S24x768, .f32⟩
  | 5 => ⟨S1x768, .f32⟩
  | 6 => ⟨S768, .f32⟩
  | 7 => ⟨S1x768, .f32⟩
  | 8 => ⟨S24x768, .f32⟩
  | 9 => ⟨S24x768, .f32⟩
  | 10 => ⟨S24x768, .f32⟩
  | 11 => ⟨S24x768, .f32⟩
  | 12 => ⟨S24x768, .i1⟩
  | 13 => ⟨S24x768, .f32⟩
  | 14 => ⟨S_, .i32⟩
  | 15 => ⟨S24, .i32⟩
  | 16 => ⟨S24, .i1⟩
  | 17 => ⟨S24x1, .i1⟩
  | 18 => ⟨S1x3072x768, .f32⟩
  | 19 => ⟨S3072x768, .f32⟩
  | 20 => ⟨S768x3072, .f32⟩
  | 21 => ⟨S24x3072, .f32⟩
  | 22 => ⟨S1x3072, .f32⟩
  | 23 => ⟨S3072, .f32⟩
  | 24 => ⟨S1x3072, .f32⟩
  | 25 => ⟨S24x3072, .f32⟩
  | 26 => ⟨S24x3072, .f32⟩
  | 27 => ⟨S_, .f32⟩
  | 28 => ⟨S24x3072, .f32⟩
  | 29 => ⟨S24x3072, .f32⟩
  | 30 => ⟨S24x3072, .f32⟩
  | 31 => ⟨S_, .f32⟩
  | 32 => ⟨S24x3072, .f32⟩
  | 33 => ⟨S24x3072, .f32⟩
  | 34 => ⟨S24x3072, .f32⟩
  | 35 => ⟨S24x3072, .f32⟩
  | 36 => ⟨S1x768x3072, .f32⟩
  | 37 => ⟨S768x3072, .f32⟩
  | 38 => ⟨S3072x768, .f32⟩
  | 39 => ⟨S24x768, .f32⟩
  | 40 => ⟨S1x768, .f32⟩
  | 41 => ⟨S768, .f32⟩
  | 42 => ⟨S1x768, .f32⟩
  | 43 => ⟨S24x768, .f32⟩
  | 44 => ⟨S24x768, .f32⟩
  | 45 => ⟨S24x768, .f32⟩
  | 46 => ⟨S24x768, .f32⟩
  | 47 => ⟨S24x768, .i1⟩
  | 48 => ⟨S24x768, .f32⟩
  | 49 => ⟨S_, .i32⟩
  | 50 => ⟨S24, .i32⟩
  | 51 => ⟨S24, .i1⟩
  | 52 => ⟨S24x1, .i1⟩
  | 53 => ⟨S1x3072x768, .f32⟩
  | 54 => ⟨S3072x768, .f32⟩
  | 55 => ⟨S768x3072, .f32⟩
  | 56 => ⟨S24x3072, .f32⟩
  | 57 => ⟨S1x3072, .f32⟩
  | 58 => ⟨S3072, .f32⟩
  | 59 => ⟨S1x3072, .f32⟩
  | 60 => ⟨S24x3072, .f32⟩
  | 61 => ⟨S24x3072, .f32⟩
  | 62 => ⟨S_, .f32⟩
  | 63 => ⟨S24x3072, .f32⟩
  | 64 => ⟨S24x3072, .f32⟩
  | 65 => ⟨S24x3072, .f32⟩
  | 66 => ⟨S_, .f32⟩
  | 67 => ⟨S24x3072, .f32⟩
  | 68 => ⟨S24x3072, .f32⟩
  | 69 => ⟨S24x3072, .f32⟩
  | 70 => ⟨S24x3072, .f32⟩
  | 71 => ⟨S1x768x3072, .f32⟩
  | 72 => ⟨S768x3072, .f32⟩
  | 73 => ⟨S3072x768, .f32⟩
  | 74 => ⟨S24x768, .f32⟩
  | 75 => ⟨S1x768, .f32⟩
  | 76 => ⟨S768, .f32⟩
  | 77 => ⟨S1x768, .f32⟩
  | 78 => ⟨S24x768, .f32⟩
  | 79 => ⟨S24x768, .f32⟩
  | 80 => ⟨S24x768, .f32⟩
  | 81 => ⟨S24x768, .f32⟩
  | 82 => ⟨S24x768, .i1⟩
  | 83 => ⟨S24x768, .f32⟩
  | 84 => ⟨S_, .i32⟩
  | 85 => ⟨S24, .i32⟩
  | 86 => ⟨S24, .i1⟩
  | 87 => ⟨S24x1, .i1⟩
  | 88 => ⟨S1x3072x768, .f32⟩
  | 89 => ⟨S3072x768, .f32⟩
  | 90 => ⟨S768x3072, .f32⟩
  | 91 => ⟨S24x3072, .f32⟩
  | 92 => ⟨S1x3072, .f32⟩
  | 93 => ⟨S3072, .f32⟩
  | 94 => ⟨S1x3072, .f32⟩
  | 95 => ⟨S24x3072, .f32⟩
  | 96 => ⟨S24x3072, .f32⟩
  | 97 => ⟨S_, .f32⟩
  | 98 => ⟨S24x3072, .f32⟩
  | 99 => ⟨S24x3072, .f32⟩
  | 100 => ⟨S24x3072, .f32⟩
  | 101 => ⟨S_, .f32⟩
  | 102 => ⟨S24x3072, .f32⟩
  | 103 => ⟨S24x3072, .f32⟩
  | 104 => ⟨S24x3072, .f32⟩
  | 105 => ⟨S24x3072, .f32⟩
  | 106 => ⟨S1x768x3072, .f32⟩
  | 107 => ⟨S768x3072, .f32⟩
  | 108 => ⟨S3072x768, .f32⟩
  | 109 => ⟨S24x768, .f32⟩
  | 110 => ⟨S1x768, .f32⟩
  | 111 => ⟨S768, .f32⟩
  | 112 => ⟨S1x768, .f32⟩
  | 113 => ⟨S24x768, .f32⟩
  | 114 => ⟨S24x768, .f32⟩
  | 115 => ⟨S24x768, .f32⟩
  | 116 => ⟨S24x768, .f32⟩
  | 117 => ⟨S24x768, .i1⟩
  | 118 => ⟨S24x768, .f32⟩
  | 119 => ⟨S_, .i32⟩
  | 120 => ⟨S24, .i32⟩
  | 121 => ⟨S24, .i1⟩
  | 122 => ⟨S24x1, .i1⟩
  | 123 => ⟨S1x3072x768, .f32⟩
  | 124 => ⟨S3072x768, .f32⟩
  | 125 => ⟨S768x3072, .f32⟩
  | 126 => ⟨S24x3072, .f32⟩
  | 127 => ⟨S1x3072, .f32⟩
  | _ => ⟨S4x2048x768, .f32⟩

abbrev hbmTy0_3 (i : Nat) : BufTy := match i % 128 with
  | 0 => ⟨S3072, .f32⟩
  | 1 => ⟨S1x3072, .f32⟩
  | 2 => ⟨S24x3072, .f32⟩
  | 3 => ⟨S24x3072, .f32⟩
  | 4 => ⟨S_, .f32⟩
  | 5 => ⟨S24x3072, .f32⟩
  | 6 => ⟨S24x3072, .f32⟩
  | 7 => ⟨S24x3072, .f32⟩
  | 8 => ⟨S_, .f32⟩
  | 9 => ⟨S24x3072, .f32⟩
  | 10 => ⟨S24x3072, .f32⟩
  | 11 => ⟨S24x3072, .f32⟩
  | 12 => ⟨S24x3072, .f32⟩
  | 13 => ⟨S1x768x3072, .f32⟩
  | 14 => ⟨S768x3072, .f32⟩
  | 15 => ⟨S3072x768, .f32⟩
  | 16 => ⟨S24x768, .f32⟩
  | 17 => ⟨S1x768, .f32⟩
  | 18 => ⟨S768, .f32⟩
  | 19 => ⟨S1x768, .f32⟩
  | 20 => ⟨S24x768, .f32⟩
  | 21 => ⟨S24x768, .f32⟩
  | 22 => ⟨S24x768, .f32⟩
  | 23 => ⟨S24x768, .f32⟩
  | 24 => ⟨S24x768, .i1⟩
  | 25 => ⟨S24x768, .f32⟩
  | 26 => ⟨S_, .i32⟩
  | 27 => ⟨S24, .i32⟩
  | 28 => ⟨S24, .i1⟩
  | 29 => ⟨S24x1, .i1⟩
  | 30 => ⟨S1x3072x768, .f32⟩
  | 31 => ⟨S3072x768, .f32⟩
  | 32 => ⟨S768x3072, .f32⟩
  | 33 => ⟨S24x3072, .f32⟩
  | 34 => ⟨S1x3072, .f32⟩
  | 35 => ⟨S3072, .f32⟩
  | 36 => ⟨S1x3072, .f32⟩
  | 37 => ⟨S24x3072, .f32⟩
  | 38 => ⟨S24x3072, .f32⟩
  | 39 => ⟨S_, .f32⟩
  | 40 => ⟨S24x3072, .f32⟩
  | 41 => ⟨S24x3072, .f32⟩
  | 42 => ⟨S24x3072, .f32⟩
  | 43 => ⟨S_, .f32⟩
  | 44 => ⟨S24x3072, .f32⟩
  | 45 => ⟨S24x3072, .f32⟩
  | 46 => ⟨S24x3072, .f32⟩
  | 47 => ⟨S24x3072, .f32⟩
  | 48 => ⟨S1x768x3072, .f32⟩
  | 49 => ⟨S768x3072, .f32⟩
  | 50 => ⟨S3072x768, .f32⟩
  | 51 => ⟨S24x768, .f32⟩
  | 52 => ⟨S1x768, .f32⟩
  | 53 => ⟨S768, .f32⟩
  | 54 => ⟨S1x768, .f32⟩
  | 55 => ⟨S24x768, .f32⟩
  | 56 => ⟨S24x768, .f32⟩
  | 57 => ⟨S24x768, .f32⟩
  | 58 => ⟨S24x768, .f32⟩
  | 59 => ⟨S24x768, .i1⟩
  | 60 => ⟨S24x768, .f32⟩
  | 61 => ⟨S_, .i32⟩
  | 62 => ⟨S24, .i32⟩
  | 63 => ⟨S24, .i1⟩
  | 64 => ⟨S24x1, .i1⟩
  | 65 => ⟨S1x3072x768, .f32⟩
  | 66 => ⟨S3072x768, .f32⟩
  | 67 => ⟨S768x3072, .f32⟩
  | 68 => ⟨S24x3072, .f32⟩
  | 69 => ⟨S1x3072, .f32⟩
  | 70 => ⟨S3072, .f32⟩
  | 71 => ⟨S1x3072, .f32⟩
  | 72 => ⟨S24x3072, .f32⟩
  | 73 => ⟨S24x3072, .f32⟩
  | 74 => ⟨S_, .f32⟩
  | 75 => ⟨S24x3072, .f32⟩
  | 76 => ⟨S24x3072, .f32⟩
  | 77 => ⟨S24x3072, .f32⟩
  | 78 => ⟨S_, .f32⟩
  | 79 => ⟨S24x3072, .f32⟩
  | 80 => ⟨S24x3072, .f32⟩
  | 81 => ⟨S24x3072, .f32⟩
  | 82 => ⟨S24x3072, .f32⟩
  | 83 => ⟨S1x768x3072, .f32⟩
  | 84 => ⟨S768x3072, .f32⟩
  | 85 => ⟨S3072x768, .f32⟩
  | 86 => ⟨S24x768, .f32⟩
  | 87 => ⟨S1x768, .f32⟩
  | 88 => ⟨S768, .f32⟩
  | 89 => ⟨S1x768, .f32⟩
  | 90 => ⟨S24x768, .f32⟩
  | 91 => ⟨S24x768, .f32⟩
  | 92 => ⟨S24x768, .f32⟩
  | 93 => ⟨S24x768, .f32⟩
  | 94 => ⟨S24x768, .i1⟩
  | 95 => ⟨S24x768, .f32⟩
  | 96 => ⟨S4x6x768, .f32⟩
  | 97 => ⟨S4x2048x768, .f32⟩
  | _ => ⟨S4x2048x768, .f32⟩

abbrev hbmTy (i : Nat) : BufTy := match i / 128 with
  | 0 => hbmTy0_0 i
  | 1 => hbmTy0_1 i
  | 2 => hbmTy0_2 i
  | 3 => hbmTy0_3 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call2_v0 : Ref sig .tc := ⟨.hbm, 93, rfl⟩
abbrev main_v71 : Ref sig .tc := ⟨.hbm, 94, rfl⟩
abbrev main_c_10 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_11 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_call3_v0 : Ref sig .tc := ⟨.hbm, 128, rfl⟩
abbrev main_v102 : Ref sig .tc := ⟨.hbm, 129, rfl⟩
abbrev main_c_13 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_14 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_15 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_call4_v0 : Ref sig .tc := ⟨.hbm, 163, rfl⟩
abbrev main_v133 : Ref sig .tc := ⟨.hbm, 164, rfl⟩
abbrev main_c_16 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_17 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_18 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_call5_v0 : Ref sig .tc := ⟨.hbm, 198, rfl⟩
abbrev main_v164 : Ref sig .tc := ⟨.hbm, 199, rfl⟩
abbrev main_c_19 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_20 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_cst_21 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_call6_v0 : Ref sig .tc := ⟨.hbm, 233, rfl⟩
abbrev main_v195 : Ref sig .tc := ⟨.hbm, 234, rfl⟩
abbrev main_c_22 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_23 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_cst_24 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_call7_v0 : Ref sig .tc := ⟨.hbm, 268, rfl⟩
abbrev main_v226 : Ref sig .tc := ⟨.hbm, 269, rfl⟩
abbrev main_c_25 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_cst_26 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_cst_27 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_call8_v0 : Ref sig .tc := ⟨.hbm, 303, rfl⟩
abbrev main_v257 : Ref sig .tc := ⟨.hbm, 304, rfl⟩
abbrev main_c_28 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_cst_29 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_cst_30 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_call9_v0 : Ref sig .tc := ⟨.hbm, 338, rfl⟩
abbrev main_v288 : Ref sig .tc := ⟨.hbm, 339, rfl⟩
abbrev main_c_31 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_cst_32 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_cst_33 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_call10_v0 : Ref sig .tc := ⟨.hbm, 373, rfl⟩
abbrev main_v319 : Ref sig .tc := ⟨.hbm, 374, rfl⟩
abbrev main_c_34 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_v331 : Ref sig .tc := ⟨.hbm, 387, rfl⟩
abbrev main_cst_35 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_cst_36 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_call11_v0 : Ref sig .tc := ⟨.hbm, 408, rfl⟩
abbrev main_v350 : Ref sig .tc := ⟨.hbm, 409, rfl⟩
abbrev main_c_37 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_v355 : Ref sig .tc := ⟨.hbm, 415, rfl⟩
abbrev main_v356 : Ref sig .tc := ⟨.hbm, 416, rfl⟩
abbrev main_v357 : Ref sig .tc := ⟨.hbm, 417, rfl⟩
abbrev main_v358 : Ref sig .tc := ⟨.hbm, 418, rfl⟩
abbrev main_v359 : Ref sig .tc := ⟨.hbm, 419, rfl⟩
abbrev main_v360 : Ref sig .tc := ⟨.hbm, 420, rfl⟩
abbrev main_v361 : Ref sig .tc := ⟨.hbm, 421, rfl⟩
abbrev main_v362 : Ref sig .tc := ⟨.hbm, 422, rfl⟩
abbrev main_cst_38 : Ref sig .tc := ⟨.hbm, 423, rfl⟩
abbrev main_v363 : Ref sig .tc := ⟨.hbm, 424, rfl⟩
abbrev main_v364 : Ref sig .tc := ⟨.hbm, 425, rfl⟩
abbrev main_v365 : Ref sig .tc := ⟨.hbm, 426, rfl⟩
abbrev main_cst_39 : Ref sig .tc := ⟨.hbm, 427, rfl⟩
abbrev main_v366 : Ref sig .tc := ⟨.hbm, 428, rfl⟩
abbrev main_v367 : Ref sig .tc := ⟨.hbm, 429, rfl⟩
abbrev main_v368 : Ref sig .tc := ⟨.hbm, 430, rfl⟩
abbrev main_v369 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_call12_v0 : Ref sig .tc := ⟨.hbm, 443, rfl⟩
abbrev main_v381 : Ref sig .tc := ⟨.hbm, 444, rfl⟩
abbrev main_c_40 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_cst_41 : Ref sig .tc := ⟨.hbm, 458, rfl⟩
abbrev main_v394 : Ref sig .tc := ⟨.hbm, 459, rfl⟩
abbrev main_v395 : Ref sig .tc := ⟨.hbm, 460, rfl⟩
abbrev main_v396 : Ref sig .tc := ⟨.hbm, 461, rfl⟩
abbrev main_cst_42 : Ref sig .tc := ⟨.hbm, 462, rfl⟩
abbrev main_v397 : Ref sig .tc := ⟨.hbm, 463, rfl⟩
abbrev main_v398 : Ref sig .tc := ⟨.hbm, 464, rfl⟩
abbrev main_v399 : Ref sig .tc := ⟨.hbm, 465, rfl⟩
abbrev main_v400 : Ref sig .tc := ⟨.hbm, 466, rfl⟩
abbrev main_v401 : Ref sig .tc := ⟨.hbm, 467, rfl⟩
abbrev main_v402 : Ref sig .tc := ⟨.hbm, 468, rfl⟩
abbrev main_v403 : Ref sig .tc := ⟨.hbm, 469, rfl⟩
abbrev main_v404 : Ref sig .tc := ⟨.hbm, 470, rfl⟩
abbrev main_v405 : Ref sig .tc := ⟨.hbm, 471, rfl⟩
abbrev main_v406 : Ref sig .tc := ⟨.hbm, 472, rfl⟩
abbrev main_v407 : Ref sig .tc := ⟨.hbm, 473, rfl⟩
abbrev main_v408 : Ref sig .tc := ⟨.hbm, 474, rfl⟩
abbrev main_v409 : Ref sig .tc := ⟨.hbm, 475, rfl⟩
abbrev main_v410 : Ref sig .tc := ⟨.hbm, 476, rfl⟩
abbrev main_v411 : Ref sig .tc := ⟨.hbm, 477, rfl⟩
abbrev main_call13_v0 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩

abbrev nD : Nat := 1
abbrev τ : Topo := Topo.v7x

variable {F : FTy → Type} [FloatOps F]
-- ==== Proof.Reference.lean ====
/-
  The frame of the reference: it terminates, every argument unchanged; it has no semaphore, so every counter is zero.
-/
module

public import proofs.«01_k».proof.Proof.Gen.ReferenceIdeal
public import proofs.«01_k».proof.Proof.Gen.ReferenceIdeal.Run

@[expose] public section

noncomputable section

namespace Cert.ReferenceIdeal.Hand

open Cert.ReferenceIdeal Cert.ReferenceIdeal.Gen
open Idealize.ShloMosaic Idealize.SL.Sem

variable {F : FTy → Type} [FloatOps F]

/-- The reference names no semaphore cell. -/
theorem no_cell : SemLoc sig → False
  | .reg s => Fin.elim0 s
  | .dma s => Fin.elim0 s

/-- The frame of the reference. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h c).2, funext fun g => (no_cell g.2).elim⟩) (Value.run m ρ)

end Cert.ReferenceIdeal.Hand

end
-- ==== Proof.Body.Common.lean ====
/-
  The kernel body's buffers, the pieces its copies move, and what each copy hands back when it lands.

  The two expert tables stay in HBM; the body copies one expert's slab at a time into a scratch buffer, in eight
  pieces on one DMA cell. A slab's pieces in flight are one batch of eight.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-! ## The buffers the body names itself -/

/-- The two patch matrices in their narrow format. -/
abbrev scW1 : Memref sig .tc .vmem S3072x768 .bf16 := Memref.whole cc0_scratch0
abbrev scW2 : Memref sig .tc .vmem S768x3072 .bf16 := Memref.whole cc0_scratch1
/-- One expert's input slab, one expert's output slab. -/
abbrev scI : Memref sig .tc .vmem S3072x768 .f32 := Memref.whole cc0_scratch2
abbrev scO : Memref sig .tc .vmem S768x3072 .f32 := Memref.whole cc0_scratch3
/-- The mixed hidden rows, the mixed output rows. -/
abbrev scH : Memref sig .tc .vmem S32x3072 .f32 := Memref.whole cc0_scratch4
abbrev scA : Memref sig .tc .vmem S32x768 .f32 := Memref.whole cc0_scratch5
/-- The two expert tables in HBM. -/
abbrev hbI : Memref sig .tc .hbm S5x3072x768 .f32 := Memref.whole main_arg6
abbrev hbO : Memref sig .tc .hbm S5x768x3072 .f32 := Memref.whole main_arg8

/-- What a buffer reached through a memref holds. -/
abbrev Cnt (c : Dev nD) {sp : Space} {S : Shape} {e : EltTy} (M : Memref sig .tc sp S e) : Type := Buf (Elt F) (M.view.loc (c : Thread nD τ))
/-- The memref's buffer held whole; the memref's own elements held. -/
abbrev pt (c : Dev nD) {sp : Space} {S : Shape} {e : EltTy} (M : Memref sig .tc sp S e) (f : Cnt (F := F) c M) : sProp 𝕄 :=
  M.view.loc (c : Thread nD τ) ↦{fullShare} f
abbrev ptOn (c : Dev nD) {sp : Space} {S : Shape} {e : EltTy} (M : Memref sig .tc sp S e) (f : Cnt (F := F) c M) : sProp 𝕄 :=
  M.view.loc (c : Thread nD τ) ↦[M.view.set]{fullShare} f

/-- A piece of the input scratch (384 rows), and the piece of the table it is copied from. -/
abbrev dI (o : Fin 2 → ℕ) (h : ∀ a, o a + S384x768.size a ≤ S3072x768.size a) : Memref sig .tc .vmem S384x768 .f32 :=
  scI.slice (Rect.unit (s := S3072x768) o S384x768.size h) (fun _ => rfl)
abbrev sI (o : Fin 3 → ℕ) (h : ∀ a, o a + S1x384x768.size a ≤ S5x3072x768.size a) : Memref sig .tc .hbm S384x768 .f32 :=
  (hbI.slice (Rect.unit (s := S5x3072x768) o S1x384x768.size h) (fun _ => rfl)).squeeze S384x768 squeezes_S1x384x768_S384x768
/-- The same for the output scratch (96 rows). -/
abbrev dO (o : Fin 2 → ℕ) (h : ∀ a, o a + S96x3072.size a ≤ S768x3072.size a) : Memref sig .tc .vmem S96x3072 .f32 :=
  scO.slice (Rect.unit (s := S768x3072) o S96x3072.size h) (fun _ => rfl)
abbrev sO (o : Fin 3 → ℕ) (h : ∀ a, o a + S1x96x3072.size a ≤ S5x768x3072.size a) : Memref sig .tc .hbm S96x3072 .f32 :=
  (hbO.slice (Rect.unit (s := S5x768x3072) o S1x96x3072.size h) (fun _ => rfl)).squeeze S96x3072 squeezes_S1x96x3072_S96x3072

/-- A landed piece over junk: the destination's elements hold the source's. -/
abbrev landI (c : Dev nD) (A : Cnt (F := F) c hbI) (o' : Fin 2 → ℕ) (h' : ∀ a, o' a + S384x768.size a ≤ S3072x768.size a)
    (o : Fin 3 → ℕ) (h : ∀ a, o a + S1x384x768.size a ≤ S5x3072x768.size a) : Cnt (F := F) c (dI o' h') :=
  (dI o' h').view.writes (Elt F) (dI o' h').view.junk [⟨Rect.whole S384x768, ReadAs.same.apply ((sI o h).view.read (Elt F) A)⟩]
abbrev landO (c : Dev nD) (A : Cnt (F := F) c hbO) (o' : Fin 2 → ℕ) (h' : ∀ a, o' a + S96x3072.size a ≤ S768x3072.size a)
    (o : Fin 3 → ℕ) (h : ∀ a, o a + S1x96x3072.size a ≤ S5x768x3072.size a) : Cnt (F := F) c (dO o' h') :=
  (dO o' h').view.writes (Elt F) (dO o' h').view.junk [⟨Rect.whole S96x3072, ReadAs.same.apply ((sO o h).view.read (Elt F) A)⟩]

/-- What one copy hands back: its piece landed, and its source piece. -/
abbrev backI (c : Dev nD) (A : Cnt (F := F) c hbI) (o' : Fin 2 → ℕ) (h' : ∀ a, o' a + S384x768.size a ≤ S3072x768.size a)
    (o : Fin 3 → ℕ) (h : ∀ a, o a + S1x384x768.size a ≤ S5x3072x768.size a) : sProp 𝕄 :=
  iprop(ptOn c (dI o' h') (landI c A o' h' o h) ∗ ptOn c (sI o h) A)
abbrev backO (c : Dev nD) (A : Cnt (F := F) c hbO) (o' : Fin 2 → ℕ) (h' : ∀ a, o' a + S96x3072.size a ≤ S768x3072.size a)
    (o : Fin 3 → ℕ) (h : ∀ a, o a + S1x96x3072.size a ≤ S5x768x3072.size a) : sProp 𝕄 :=
  iprop(ptOn c (dO o' h') (landO c A o' h' o h) ∗ ptOn c (sO o h) A)

/-- Where the eight pieces of a slab lie in a table, and that they lie inside it. -/
abbrev OffsI (o : Fin 8 → Fin 3 → ℕ) : Prop := ∀ k a, o k a + S1x384x768.size a ≤ S5x3072x768.size a
abbrev OffsO (o : Fin 8 → Fin 3 → ℕ) : Prop := ∀ k a, o k a + S1x96x3072.size a ≤ S5x768x3072.size a

/-- The eight deliveries of a slab, in issue order. -/
def dlvI (c : Dev nD) (A : Cnt (F := F) c hbI) (o : Fin 8 → Fin 3 → ℕ) (h : OffsI o) : Fin 8 → sProp 𝕄
  | 0 => backI c A ![0, 0] inb_S3072x768_S384x768_0_0 (o 0) (h 0)
  | 1 => backI c A ![384, 0] inb_S3072x768_S384x768_384_0 (o 1) (h 1)
  | 2 => backI c A ![768, 0] inb_S3072x768_S384x768_768_0 (o 2) (h 2)
  | 3 => backI c A ![1152, 0] inb_S3072x768_S384x768_1152_0 (o 3) (h 3)
  | 4 => backI c A ![1536, 0] inb_S3072x768_S384x768_1536_0 (o 4) (h 4)
  | 5 => backI c A ![1920, 0] inb_S3072x768_S384x768_1920_0 (o 5) (h 5)
  | 6 => backI c A ![2304, 0] inb_S3072x768_S384x768_2304_0 (o 6) (h 6)
  | 7 => backI c A ![2688, 0] inb_S3072x768_S384x768_2688_0 (o 7) (h 7)
def dlvO (c : Dev nD) (A : Cnt (F := F) c hbO) (o : Fin 8 → Fin 3 → ℕ) (h : OffsO o) : Fin 8 → sProp 𝕄
  | 0 => backO c A ![0, 0] inb_S768x3072_S96x3072_0_0 (o 0) (h 0)
  | 1 => backO c A ![96, 0] inb_S768x3072_S96x3072_96_0 (o 1) (h 1)
  | 2 => backO c A ![192, 0] inb_S768x3072_S96x3072_192_0 (o 2) (h 2)
  | 3 => backO c A ![288, 0] inb_S768x3072_S96x3072_288_0 (o 3) (h 3)
  | 4 => backO c A ![384, 0] inb_S768x3072_S96x3072_384_0 (o 4) (h 4)
  | 5 => backO c A ![480, 0] inb_S768x3072_S96x3072_480_0 (o 5) (h 5)
  | 6 => backO c A ![576, 0] inb_S768x3072_S96x3072_576_0 (o 6) (h 6)
  | 7 => backO c A ![672, 0] inb_S768x3072_S96x3072_672_0 (o 7) (h 7)
instance dlvI_storable (c : Dev nD) (A : Cnt (F := F) c hbI) (o : Fin 8 → Fin 3 → ℕ) (h : OffsI o) (t : Fin 8) :
    Storable (upEmb : UEmb _ 𝕄) (dlvI c A o h t) := by
  fin_cases t <;> simp only [dlvI] <;> infer_instance
instance dlvO_storable (c : Dev nD) (A : Cnt (F := F) c hbO) (o : Fin 8 → Fin 3 → ℕ) (h : OffsO o) (t : Fin 8) :
    Storable (upEmb : UEmb _ 𝕄) (dlvO c A o h t) := by
  fin_cases t <;> simp only [dlvO] <;> infer_instance

/-- The amount one copy credits its cell with. -/
abbrev nI : ℕ := (dI ![0, 0] inb_S3072x768_S384x768_0_0).view.amount (SemLoc.dma (sig := sig) 12)
abbrev nO : ℕ := (dO ![0, 0] inb_S768x3072_S96x3072_0_0).view.amount (SemLoc.dma (sig := sig) 13)

/-- All eight pieces of a slab in flight, none waited for. -/
abbrev flyI (c : Dev nD) (A : Cnt (F := F) c hbI) (o : Fin 8 → Fin 3 → ℕ) (h : OffsI o) : sProp 𝕄 :=
  Transfers.Batch (countersEmb (U := Pipeline.UD sig nD τ)) (c : Thread nD τ) (.dma 12) () nI (dlvI c A o h) 8 0
abbrev flyO (c : Dev nD) (A : Cnt (F := F) c hbO) (o : Fin 8 → Fin 3 → ℕ) (h : OffsO o) : sProp 𝕄 :=
  Transfers.Batch (countersEmb (U := Pipeline.UD sig nD τ)) (c : Thread nD τ) (.dma 13) () nO (dlvO c A o h) 8 0

/-! ## The offsets as the body computes them -/

/-- The pieces the input stage at `i` starts, the pieces the output stage at `i` starts. -/
def oNextI (i : grid0.Coords) : Fin 8 → Fin 3 → ℕ
  | 0 => k0_off9 i | 1 => k0_off10 i | 2 => k0_off11 i | 3 => k0_off12 i
  | 4 => k0_off13 i | 5 => k0_off14 i | 6 => k0_off15 i | 7 => k0_off16 i
def oNextO (i : grid0.Coords) : Fin 8 → Fin 3 → ℕ
  | 0 => k0_off25 i | 1 => k0_off26 i | 2 => k0_off27 i | 3 => k0_off28 i
  | 4 => k0_off29 i | 5 => k0_off30 i | 6 => k0_off31 i | 7 => k0_off32 i
theorem hNextI (i : grid0.Coords) (h2 : k0_cond2 i = 1#1) (h5 : k0_cond5 i = 1#1) : OffsI (oNextI i) := fun k => by
  fin_cases k
  · exact k0_off9_inb i h2 h5
  · exact k0_off10_inb i h2 h5
  · exact k0_off11_inb i h2 h5
  · exact k0_off12_inb i h2 h5
  · exact k0_off13_inb i h2 h5
  · exact k0_off14_inb i h2 h5
  · exact k0_off15_inb i h2 h5
  · exact k0_off16_inb i h2 h5
theorem hNextO (i : grid0.Coords) (h6 : k0_cond6 i = 1#1) (h9 : k0_cond9 i = 1#1) : OffsO (oNextO i) := fun k => by
  fin_cases k
  · exact k0_off25_inb i h6 h9
  · exact k0_off26_inb i h6 h9
  · exact k0_off27_inb i h6 h9
  · exact k0_off28_inb i h6 h9
  · exact k0_off29_inb i h6 h9
  · exact k0_off30_inb i h6 h9
  · exact k0_off31_inb i h6 h9
  · exact k0_off32_inb i h6 h9

/-- Expert `e`'s pieces by their place. -/
def oI (e : Fin 5) (k : Fin 8) : Fin 3 → ℕ := ![e.val, 384 * k.val, 0]
def oO (e : Fin 5) (k : Fin 8) : Fin 3 → ℕ := ![e.val, 96 * k.val, 0]
theorem hI (e : Fin 5) : OffsI (oI e) := fun k a => by
  have := e.isLt; have := k.isLt
  fin_cases a
  · show e.val + 1 ≤ 5; omega
  · show 384 * k.val + 384 ≤ 3072; omega
  · show 0 + 768 ≤ 768; omega
theorem hO (e : Fin 5) : OffsO (oO e) := fun k a => by
  have := e.isLt; have := k.isLt
  fin_cases a
  · show e.val + 1 ≤ 5; omega
  · show 96 * k.val + 96 ≤ 768; omega
  · show 0 + 3072 ≤ 3072; omega

theorem flyI_congr (c : Dev nD) (A : Cnt (F := F) c hbI) {o o' : Fin 8 → Fin 3 → ℕ} (h : OffsI o) (h' : OffsI o') (e : o = o') :
    flyI c A o h = flyI c A o' h' := by subst e; rfl
theorem flyO_congr (c : Dev nD) (A : Cnt (F := F) c hbO) {o o' : Fin 8 → Fin 3 → ℕ} (h : OffsO o) (h' : OffsO o') (e : o = o') :
    flyO c A o h = flyO c A o' h' := by subst e; rfl

/-- Which grid points start which slabs. -/
theorem oNextI_at (t : Fin cfg0.N) (e e' : Fin 5) (h : t.val = e.val + 1) (h' : e'.val = e.val + 1) : oNextI (grid0.coords t) = oI e' := by
  revert t e e'; decide
theorem oNextO_at (t : Fin cfg0.N) (e e' : Fin 5) (h : t.val = e.val + 6) (h' : e'.val = e.val + 1) : oNextO (grid0.coords t) = oO e' := by
  revert t e e'; decide

end Cert.KernelIdeal.Hand

end
-- ==== Proof.Body.Words.lean ====
/-
  The words the body computes from its grid coordinate, and the conditions it branches on, named; then the values it
  stores, as functions of the blocks it reads.
-/
module

public import proofs.«01_k».proof.Proof.Body.Common

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

abbrev wArg (i : grid0.Coords) : BitVec 32 := BitVec.ofNat 32 (i 0).val
abbrev w28 (i : grid0.Coords) : BitVec 32 := Scalar.subi (wArg i) 1#32
abbrev w29 (i : grid0.Coords) : BitVec 32 := Scalar.divsi (w28 i) 1#32
abbrev w31 (i : grid0.Coords) : BitVec 32 := Scalar.extui (Scalar.cmpi .sgt (w28 i) 0#32)
abbrev w33 (i : grid0.Coords) : BitVec 32 := Scalar.extui (Scalar.cmpi .slt (w28 i) 0#32)
/-- The stage number of the point: its coordinate less one. -/
abbrev wStage (i : grid0.Coords) : BitVec 32 :=
  Scalar.select (Scalar.andi (Scalar.cmpi .ne (Scalar.subi (w31 i) (w33 i))
      (Scalar.subi (Scalar.extui (Scalar.cmpi .sgt 1#32 0#32)) (Scalar.extui (Scalar.cmpi .slt 1#32 0#32))))
      (Scalar.cmpi .ne (Scalar.remsi (w28 i) 1#32) 0#32))
    (Scalar.subi (w29 i) 1#32) (w29 i)
/-- The expert of an output stage: its stage number less five. -/
abbrev wOut (i : grid0.Coords) : BitVec 32 := Scalar.subi (wStage i) 5#32

/-- A word is zero, a word is not zero, as the body tests them. -/
abbrev isZ (w : BitVec 32) : Prop := Scalar.cmpi .ne (Scalar.extui (Scalar.cmpi .eq w 0#32)) (0#32 : BitVec 32) = 1#1
abbrev isNZ (w : BitVec 32) : Prop := Scalar.cmpi .ne (Scalar.extui (Scalar.cmpi .ne w 0#32)) (0#32 : BitVec 32) = 1#1

/-- The hidden rows after the first input stage, from the rows, their gate rows, the slab and the bias table; -/
def hidInit (i : grid0.Coords) (cls gd : Vec F S32x768 .f32) (ein : Vec F S3072x768 .f32) (bin : Vec F S5x3072 .f32) : Vec F S32x3072 .f32 :=
  k0_pay23 (w28 i) 1#32 (w29 i) (w31 i) (w33 i)
    (k0_pay9 (k0_pay4 cls gd) k0_pay5 k0_pay6 2#32 k0_pay7 k0_pay8 (Scalar.extui (Scalar.cmpi .sgt 2#32 0#32)))
    (k0_pay10 cls ein) (k0_pay11 (F := F) (wStage i)) bin
/-- and after a later one, from the rows so far too. -/
def hidNext (i : grid0.Coords) (cls gd : Vec F S32x768 .f32) (ein : Vec F S3072x768 .f32) (bin : Vec F S5x3072 .f32)
    (hid : Vec F S32x3072 .f32) : Vec F S32x3072 .f32 :=
  k0_pay24 (w28 i) 1#32 (w29 i) (w31 i) (w33 i)
    (k0_pay9 (k0_pay4 cls gd) k0_pay5 k0_pay6 2#32 k0_pay7 k0_pay8 (Scalar.extui (Scalar.cmpi .sgt 2#32 0#32)))
    (k0_pay10 cls ein) (k0_pay11 (F := F) (wStage i)) bin hid
/-- The output rows after the first output stage, and after a later one. -/
def accInit (i : grid0.Coords) (cls gd : Vec F S32x768 .f32) (hid : Vec F S32x3072 .f32) (eout : Vec F S768x3072 .f32)
    (bout : Vec F S5x768 .f32) : Vec F S32x768 .f32 :=
  k0_pay27 (wOut i) (k0_pay18 (k0_pay13 cls gd) k0_pay14 k0_pay15 2#32 k0_pay16 k0_pay17 0#32)
    (k0_pay19 (k0_pay12 cls gd) (k0_pay13 cls gd)) hid eout (constant S32x768 .f32 0x00000000#32) bout
def accNext (i : grid0.Coords) (cls gd : Vec F S32x768 .f32) (hid : Vec F S32x3072 .f32) (eout : Vec F S768x3072 .f32)
    (bout : Vec F S5x768 .f32) (acc : Vec F S32x768 .f32) : Vec F S32x768 .f32 :=
  k0_pay28 (wOut i) (k0_pay18 (k0_pay13 cls gd) k0_pay14 k0_pay15 2#32 k0_pay16 k0_pay17 0#32)
    (k0_pay19 (k0_pay12 cls gd) (k0_pay13 cls gd)) hid eout (constant S32x768 .f32 0x00000000#32) bout acc

end Cert.KernelIdeal.Hand

end
-- ==== Proof.Body.Slabs.lean ====
/-
  A slab in eight pieces: the scratch buffer's pieces are the buffer, the table's pieces are the table, and a landed
  piece holds its part of the expert's slab.
-/
module

public import proofs.«01_k».proof.Proof.Body.Common
public import Idealize.ShloMosaic.Lib.ValueLayout

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UD sig nD τ) ℕ

/-! ## The pieces' places, uniformly -/

def pI (k : Fin 8) : Fin 2 → ℕ := ![384 * k.val, 0]
def pO (k : Fin 8) : Fin 2 → ℕ := ![96 * k.val, 0]
theorem hpI (k : Fin 8) (a) : pI k a + S384x768.size a ≤ S3072x768.size a := by
  have := k.isLt
  fin_cases a
  · show 384 * k.val + 384 ≤ 3072; omega
  · show 0 + 768 ≤ 768; omega
theorem hpO (k : Fin 8) (a) : pO k a + S96x3072.size a ≤ S768x3072.size a := by
  have := k.isLt
  fin_cases a
  · show 96 * k.val + 96 ≤ 768; omega
  · show 0 + 3072 ≤ 3072; omega

theorem mem_dI (k : Fin 8) (x : S3072x768.Idx) : x ∈ (dI (pI k) (hpI k)).view.set ↔ (x 0).val / 384 = k.val := by
  show x ∈ ((View.whole cc0_scratch2).slice (Rect.unit (s := S3072x768) (pI k) S384x768.size (hpI k))).set ↔ _
  rw [View.set_slice_whole]
  refine Rect.mem_set_unit.trans ⟨fun h => ?_, fun h a => ?_⟩
  · have := h 0
    change 384 * k.val ≤ _ ∧ _ < 384 * k.val + 384 at this
    omega
  · have := (x 1).isLt
    fin_cases a
    · show 384 * k.val ≤ (x 0).val ∧ (x 0).val < 384 * k.val + 384; omega
    · show 0 ≤ _ ∧ (x 1).val < 0 + 768; exact ⟨Nat.zero_le _, by simpa using this⟩
theorem mem_dO (k : Fin 8) (x : S768x3072.Idx) : x ∈ (dO (pO k) (hpO k)).view.set ↔ (x 0).val / 96 = k.val := by
  show x ∈ ((View.whole cc0_scratch3).slice (Rect.unit (s := S768x3072) (pO k) S96x3072.size (hpO k))).set ↔ _
  rw [View.set_slice_whole]
  refine Rect.mem_set_unit.trans ⟨fun h => ?_, fun h a => ?_⟩
  · have := h 0
    change 96 * k.val ≤ _ ∧ _ < 96 * k.val + 96 at this
    omega
  · have := (x 1).isLt
    fin_cases a
    · show 96 * k.val ≤ (x 0).val ∧ (x 0).val < 96 * k.val + 96; omega
    · show 0 ≤ _ ∧ (x 1).val < 0 + 3072; exact ⟨Nat.zero_le _, by simpa using this⟩
theorem mem_sI (e : Fin 5) (k : Fin 8) (x : S5x3072x768.Idx) :
    x ∈ (sI (oI e k) (hI e k)).view.set ↔ (x 0).val = e.val ∧ (x 1).val / 384 = k.val := by
  rw [show (sI (oI e k) (hI e k)).view.set = (Rect.unit (s := S5x3072x768) (oI e k) S1x384x768.size (hI e k)).set from
    (View.set_reshape ((View.whole main_arg6).slice (Rect.unit (s := S5x3072x768) (oI e k) S1x384x768.size (hI e k)))
      squeezes_S1x384x768_S384x768.numel_eq).trans (View.set_slice_whole ..)]
  refine Rect.mem_set_unit.trans ⟨fun h => ?_, fun h a => ?_⟩
  · have h0 := h 0
    have h1 := h 1
    change e.val ≤ _ ∧ _ < e.val + 1 at h0
    change 384 * k.val ≤ _ ∧ _ < 384 * k.val + 384 at h1
    omega
  · have := (x 2).isLt
    fin_cases a
    · show e.val ≤ (x 0).val ∧ (x 0).val < e.val + 1; omega
    · show 384 * k.val ≤ (x 1).val ∧ (x 1).val < 384 * k.val + 384; omega
    · show 0 ≤ _ ∧ (x 2).val < 0 + 768; exact ⟨Nat.zero_le _, by simpa using this⟩
theorem mem_sO (e : Fin 5) (k : Fin 8) (x : S5x768x3072.Idx) :
    x ∈ (sO (oO e k) (hO e k)).view.set ↔ (x 0).val = e.val ∧ (x 1).val / 96 = k.val := by
  rw [show (sO (oO e k) (hO e k)).view.set = (Rect.unit (s := S5x768x3072) (oO e k) S1x96x3072.size (hO e k)).set from
    (View.set_reshape ((View.whole main_arg8).slice (Rect.unit (s := S5x768x3072) (oO e k) S1x96x3072.size (hO e k)))
      squeezes_S1x96x3072_S96x3072.numel_eq).trans (View.set_slice_whole ..)]
  refine Rect.mem_set_unit.trans ⟨fun h => ?_, fun h a => ?_⟩
  · have h0 := h 0
    have h1 := h 1
    change e.val ≤ _ ∧ _ < e.val + 1 at h0
    change 96 * k.val ≤ _ ∧ _ < 96 * k.val + 96 at h1
    omega
  · have := (x 2).isLt
    fin_cases a
    · show e.val ≤ (x 0).val ∧ (x 0).val < e.val + 1; omega
    · show 96 * k.val ≤ (x 1).val ∧ (x 1).val < 96 * k.val + 96; omega
    · show 0 ≤ _ ∧ (x 2).val < 0 + 3072; exact ⟨Nat.zero_le _, by simpa using this⟩

/-! ## A buffer is its pieces -/

/-- A points-to over a set, split by the value of a label. -/
theorem pt_split {ℓ : Loc nD τ sig} (f : Buf (Elt F) ℓ) (S : Finset (Idx ℓ)) (lab : Idx ℓ → ℕ) (n : ℕ) (K : Fin n → Finset (Idx ℓ))
    (hlab : ∀ x ∈ S, lab x < n) (hK : ∀ t x, x ∈ K t ↔ x ∈ S ∧ lab x = t.val) :
    (ℓ ↦[S]{fullShare} f : sProp 𝕄) = bigSep Finset.univ fun t => ℓ ↦[K t]{fullShare} f := by
  have hu : (Finset.univ : Finset (Fin n)).biUnion K = S := by
    ext x; rw [Finset.mem_biUnion]
    exact ⟨fun ⟨t, _, h⟩ => ((hK t x).1 h).1, fun h => ⟨⟨lab x, hlab x h⟩, Finset.mem_univ _, (hK _ x).2 ⟨h, rfl⟩⟩⟩
  rw [← hu, pointsTo_biUnion]
  intro t _ t' _ hne
  exact Finset.disjoint_left.2 fun x hx hx' => hne (Fin.ext (((hK _ _).1 hx).2.symm.trans ((hK _ _).1 hx').2))

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [BI.bigSep_eq_bigSepL_of_eq [0, 1, 2, 3, 4, 5, 6, 7] (by decide) (by decide)]; rfl

/-- The scratch buffer's eight pieces, as the copies name them. -/
abbrev pcsI (c : Dev nD) (g : Cnt (F := F) c scI) : sProp 𝕄 :=
  iprop(ptOn c (dI ![0, 0] inb_S3072x768_S384x768_0_0) g ∗ ptOn c (dI ![384, 0] inb_S3072x768_S384x768_384_0) g
    ∗ ptOn c (dI ![768, 0] inb_S3072x768_S384x768_768_0) g ∗ ptOn c (dI ![1152, 0] inb_S3072x768_S384x768_1152_0) g
    ∗ ptOn c (dI ![1536, 0] inb_S3072x768_S384x768_1536_0) g ∗ ptOn c (dI ![1920, 0] inb_S3072x768_S384x768_1920_0) g
    ∗ ptOn c (dI ![2304, 0] inb_S3072x768_S384x768_2304_0) g ∗ ptOn c (dI ![2688, 0] inb_S3072x768_S384x768_2688_0) g)
abbrev pcsO (c : Dev nD) (g : Cnt (F := F) c scO) : sProp 𝕄 :=
  iprop(ptOn c (dO ![0, 0] inb_S768x3072_S96x3072_0_0) g ∗ ptOn c (dO ![96, 0] inb_S768x3072_S96x3072_96_0) g
    ∗ ptOn c (dO ![192, 0] inb_S768x3072_S96x3072_192_0) g ∗ ptOn c (dO ![288, 0] inb_S768x3072_S96x3072_288_0) g
    ∗ ptOn c (dO ![384, 0] inb_S768x3072_S96x3072_384_0) g ∗ ptOn c (dO ![480, 0] inb_S768x3072_S96x3072_480_0) g
    ∗ ptOn c (dO ![576, 0] inb_S768x3072_S96x3072_576_0) g ∗ ptOn c (dO ![672, 0] inb_S768x3072_S96x3072_672_0) g)

theorem pcsI_eq (c : Dev nD) (g : Cnt (F := F) c scI) : (pt c scI g : sProp 𝕄) = pcsI c g :=
  (pt_split (ℓ := scI.view.loc (c : Thread nD τ)) g Finset.univ (fun x : S3072x768.Idx => (x 0).val / 384) 8
    (fun k => (dI (pI k) (hpI k)).view.set) (fun (x : S3072x768.Idx) _ => Nat.div_lt_of_lt_mul (x 0).isLt)
    fun k x => (mem_dI k x).trans ⟨fun h => ⟨Finset.mem_univ _, h⟩, fun h => h.2⟩).trans (bigSep_fin8 _)
theorem pcsO_eq (c : Dev nD) (g : Cnt (F := F) c scO) : (pt c scO g : sProp 𝕄) = pcsO c g :=
  (pt_split (ℓ := scO.view.loc (c : Thread nD τ)) g Finset.univ (fun x : S768x3072.Idx => (x 0).val / 96) 8
    (fun k => (dO (pO k) (hpO k)).view.set) (fun (x : S768x3072.Idx) _ => Nat.div_lt_of_lt_mul (x 0).isLt)
    fun k x => (mem_dO k x).trans ⟨fun h => ⟨Finset.mem_univ _, h⟩, fun h => h.2⟩).trans (bigSep_fin8 _)
/-- The eight pieces of a slab's place in a table. -/
abbrev srcI (c : Dev nD) (A : Cnt (F := F) c hbI) (o : Fin 8 → Fin 3 → ℕ) (h : OffsI o) : sProp 𝕄 :=
  iprop(ptOn c (sI (o 0) (h 0)) A ∗ ptOn c (sI (o 1) (h 1)) A ∗ ptOn c (sI (o 2) (h 2)) A ∗ ptOn c (sI (o 3) (h 3)) A
    ∗ ptOn c (sI (o 4) (h 4)) A ∗ ptOn c (sI (o 5) (h 5)) A ∗ ptOn c (sI (o 6) (h 6)) A ∗ ptOn c (sI (o 7) (h 7)) A)
abbrev srcO (c : Dev nD) (A : Cnt (F := F) c hbO) (o : Fin 8 → Fin 3 → ℕ) (h : OffsO o) : sProp 𝕄 :=
  iprop(ptOn c (sO (o 0) (h 0)) A ∗ ptOn c (sO (o 1) (h 1)) A ∗ ptOn c (sO (o 2) (h 2)) A ∗ ptOn c (sO (o 3) (h 3)) A
    ∗ ptOn c (sO (o 4) (h 4)) A ∗ ptOn c (sO (o 5) (h 5)) A ∗ ptOn c (sO (o 6) (h 6)) A ∗ ptOn c (sO (o 7) (h 7)) A)
theorem srcI_congr (c : Dev nD) (A : Cnt (F := F) c hbI) {o o' : Fin 8 → Fin 3 → ℕ} (h : OffsI o) (h' : OffsI o') (e : o = o') :
    srcI c A o h = srcI c A o' h' := by subst e; rfl
theorem srcO_congr (c : Dev nD) (A : Cnt (F := F) c hbO) {o o' : Fin 8 → Fin 3 → ℕ} (h : OffsO o) (h' : OffsO o') (e : o = o') :
    srcO c A o h = srcO c A o' h' := by subst e; rfl

/-- The elements of a table that expert `e` reads. -/
def slabSetI (e : Fin 5) : Finset S5x3072x768.Idx := Finset.univ.filter fun x => (x 0).val = e.val
def slabSetO (e : Fin 5) : Finset S5x768x3072.Idx := Finset.univ.filter fun x => (x 0).val = e.val

theorem mem_slabI (e : Fin 5) (x : S5x3072x768.Idx) : x ∈ slabSetI e ↔ (x 0).val = e.val := by
  rw [slabSetI, Finset.mem_filter]; exact ⟨fun h => h.2, fun h => ⟨Finset.mem_univ _, h⟩⟩
theorem mem_slabO (e : Fin 5) (x : S5x768x3072.Idx) : x ∈ slabSetO e ↔ (x 0).val = e.val := by
  rw [slabSetO, Finset.mem_filter]; exact ⟨fun h => h.2, fun h => ⟨Finset.mem_univ _, h⟩⟩

theorem slabI_eq (c : Dev nD) (A : Cnt (F := F) c hbI) (e : Fin 5) :
    (hbI.view.loc (c : Thread nD τ) ↦[slabSetI e]{fullShare} A : sProp 𝕄) = srcI c A (oI e) (hI e) :=
  (pt_split (ℓ := hbI.view.loc (c : Thread nD τ)) A (slabSetI e) (fun x : S5x3072x768.Idx => (x 1).val / 384) 8
    (fun k => (sI (oI e k) (hI e k)).view.set) (fun (x : S5x3072x768.Idx) _ => Nat.div_lt_of_lt_mul (x 1).isLt)
    fun k x => (mem_sI e k x).trans (and_congr_left' (mem_slabI e x).symm)).trans (bigSep_fin8 _)
theorem slabO_eq (c : Dev nD) (A : Cnt (F := F) c hbO) (e : Fin 5) :
    (hbO.view.loc (c : Thread nD τ) ↦[slabSetO e]{fullShare} A : sProp 𝕄) = srcO c A (oO e) (hO e) :=
  (pt_split (ℓ := hbO.view.loc (c : Thread nD τ)) A (slabSetO e) (fun x : S5x768x3072.Idx => (x 1).val / 96) 8
    (fun k => (sO (oO e k) (hO e k)).view.set) (fun (x : S5x768x3072.Idx) _ => Nat.div_lt_of_lt_mul (x 1).isLt)
    fun k x => (mem_sO e k x).trans (and_congr_left' (mem_slabO e x).symm)).trans (bigSep_fin8 _)
/-- What a table holds besides expert `e`'s slab. -/
abbrev othI (c : Dev nD) (A : Cnt (F := F) c hbI) (e : Fin 5) : sProp 𝕄 :=
  hbI.view.loc (c : Thread nD τ) ↦[Finset.univ \ slabSetI e]{fullShare} A
abbrev othO (c : Dev nD) (A : Cnt (F := F) c hbO) (e : Fin 5) : sProp 𝕄 :=
  hbO.view.loc (c : Thread nD τ) ↦[Finset.univ \ slabSetO e]{fullShare} A
theorem tblI_eq (c : Dev nD) (A : Cnt (F := F) c hbI) (e : Fin 5) : (pt c hbI A : sProp 𝕄) = iprop(srcI c A (oI e) (hI e) ∗ othI c A e) := by
  rw [← slabI_eq]
  have h := pointsTo_union (ℓ := hbI.view.loc (c : Thread nD τ)) (I := slabSetI e) (J := Finset.univ \ slabSetI e) (f := A) (q := fullShare)
    (Ix := Unit) (Name := ℕ) (U := Pipeline.UD sig nD τ) (Lvl := ℕ) Finset.disjoint_sdiff
  rw [Finset.union_sdiff_of_subset (Finset.subset_univ _)] at h
  exact BI.equiv_iff.mp ⟨h.1, h.2⟩
theorem tblO_eq (c : Dev nD) (A : Cnt (F := F) c hbO) (e : Fin 5) : (pt c hbO A : sProp 𝕄) = iprop(srcO c A (oO e) (hO e) ∗ othO c A e) := by
  rw [← slabO_eq]
  have h := pointsTo_union (ℓ := hbO.view.loc (c : Thread nD τ)) (I := slabSetO e) (J := Finset.univ \ slabSetO e) (f := A) (q := fullShare)
    (Ix := Unit) (Name := ℕ) (U := Pipeline.UD sig nD τ) (Lvl := ℕ) Finset.disjoint_sdiff
  rw [Finset.union_sdiff_of_subset (Finset.subset_univ _)] at h
  exact BI.equiv_iff.mp ⟨h.1, h.2⟩

/-! ## A landed piece is its part of the slab -/

/-- Expert `e`'s slab of a table. -/
def slabI (A : Vec F S5x3072x768 .f32) (e : Fin 5) : Vec F S3072x768 .f32 := fun x => A (ix3 e (x 0) (x 1))
def slabO (A : Vec F S5x768x3072 .f32) (e : Fin 5) : Vec F S768x3072 .f32 := fun x => A (ix3 e (x 0) (x 1))

/-- A buffer written whole through a memref holds, on the memref's elements, whatever agrees with the written vector there. -/
theorem landed_eq {c : Dev nD} {sp : Space} {S : Shape} {e : EltTy} (M : Memref sig .tc sp S e) (f g : Cnt (F := F) c M) (x : Vec F S e)
    (h : ∀ j, x j = M.view.read (Elt F) g j) :
    (ptOn c M (M.view.writes (Elt F) f [⟨Rect.whole S, x⟩]) : sProp 𝕄) = ptOn c M g := by
  refine pointsTo_congr fun i hi => ?_
  obtain ⟨j, -, rfl⟩ := Finset.mem_map.1 hi
  have h1 := congrFun (View.read_writes_whole M.view f x) j
  rw [h j] at h1
  simpa only [View.read_apply, cast_inj] using h1

theorem embI_eq (e : Fin 5) (k : Fin 8) (j : S384x768.Idx) :
    (sI (oI e k) (hI e k)).view.emb j = ix3 e ((dI (pI k) (hpI k)).view.emb j 0) ((dI (pI k) (hpI k)).view.emb j 1) := by
  have h : Shape.reshapeEquiv squeezes_S1x384x768_S384x768.numel_eq j = ix3 (⟨0, Nat.one_pos⟩ : Fin 1) (j 0) (j 1) :=
    (congrArg _ (eq_ix2 j)).trans (reshapeEquiv_ix2_1ab _ (j 0) (j 1))
  have h2 : (sI (oI e k) (hI e k)).view.emb j
      = (Rect.unit (s := S5x3072x768) (oI e k) S1x384x768.size (hI e k)).emb (Shape.reshapeEquiv squeezes_S1x384x768_S384x768.numel_eq j) := rfl
  rw [h2, h]
  funext a
  fin_cases a <;> apply Fin.ext
  · show e.val + 1 * 0 = e.val; omega
  · rfl
  · rfl

theorem landI_eq (c : Dev nD) (A : Cnt (F := F) c hbI) (e : Fin 5) (k : Fin 8) :
    (ptOn c (dI (pI k) (hpI k)) (landI c A (pI k) (hpI k) (oI e k) (hI e k)) : sProp 𝕄)
      = ptOn c (dI (pI k) (hpI k)) (slabI A e) :=
  landed_eq (dI (pI k) (hpI k)) _ _ _ fun j => congrArg A (embI_eq e k j)

/-- The eight landed pieces are the scratch buffer holding the expert's slab. -/
abbrev lndI (c : Dev nD) (A : Cnt (F := F) c hbI) (o : Fin 8 → Fin 3 → ℕ) (h : OffsI o) : sProp 𝕄 :=
  iprop(ptOn c (dI ![0, 0] inb_S3072x768_S384x768_0_0) (landI c A ![0, 0] inb_S3072x768_S384x768_0_0 (o 0) (h 0))
    ∗ ptOn c (dI ![384, 0] inb_S3072x768_S384x768_384_0) (landI c A ![384, 0] inb_S3072x768_S384x768_384_0 (o 1) (h 1))
    ∗ ptOn c (dI ![768, 0] inb_S3072x768_S384x768_768_0) (landI c A ![768, 0] inb_S3072x768_S384x768_768_0 (o 2) (h 2))
    ∗ ptOn c (dI ![1152, 0] inb_S3072x768_S384x768_1152_0) (landI c A ![1152, 0] inb_S3072x768_S384x768_1152_0 (o 3) (h 3))
    ∗ ptOn c (dI ![1536, 0] inb_S3072x768_S384x768_1536_0) (landI c A ![1536, 0] inb_S3072x768_S384x768_1536_0 (o 4) (h 4))
    ∗ ptOn c (dI ![1920, 0] inb_S3072x768_S384x768_1920_0) (landI c A ![1920, 0] inb_S3072x768_S384x768_1920_0 (o 5) (h 5))
    ∗ ptOn c (dI ![2304, 0] inb_S3072x768_S384x768_2304_0) (landI c A ![2304, 0] inb_S3072x768_S384x768_2304_0 (o 6) (h 6))
    ∗ ptOn c (dI ![2688, 0] inb_S3072x768_S384x768_2688_0) (landI c A ![2688, 0] inb_S3072x768_S384x768_2688_0 (o 7) (h 7)))
theorem lndI_eq (c : Dev nD) (A : Cnt (F := F) c hbI) (e : Fin 5) :
    lndI c A (oI e) (hI e) = pt c scI (slabI A e) := by
  rw [pcsI_eq]
  unfold lndI pcsI
  exact congr (congrArg BIBase.sep (landI_eq c A e 0)) (congr (congrArg BIBase.sep (landI_eq c A e 1)) (congr (congrArg BIBase.sep (landI_eq c A e 2))
    (congr (congrArg BIBase.sep (landI_eq c A e 3)) (congr (congrArg BIBase.sep (landI_eq c A e 4)) (congr (congrArg BIBase.sep (landI_eq c A e 5))
    (congr (congrArg BIBase.sep (landI_eq c A e 6)) (landI_eq c A e 7)))))))

theorem embO_eq (e : Fin 5) (k : Fin 8) (j : S96x3072.Idx) :
    (sO (oO e k) (hO e k)).view.emb j = ix3 e ((dO (pO k) (hpO k)).view.emb j 0) ((dO (pO k) (hpO k)).view.emb j 1) := by
  have h : Shape.reshapeEquiv squeezes_S1x96x3072_S96x3072.numel_eq j = ix3 (⟨0, Nat.one_pos⟩ : Fin 1) (j 0) (j 1) :=
    (congrArg _ (eq_ix2 j)).trans (reshapeEquiv_ix2_1ab _ (j 0) (j 1))
  have h2 : (sO (oO e k) (hO e k)).view.emb j
      = (Rect.unit (s := S5x768x3072) (oO e k) S1x96x3072.size (hO e k)).emb (Shape.reshapeEquiv squeezes_S1x96x3072_S96x3072.numel_eq j) := rfl
  rw [h2, h]
  funext a
  fin_cases a <;> apply Fin.ext
  · show e.val + 1 * 0 = e.val; omega
  · rfl
  · rfl

theorem landO_eq (c : Dev nD) (A : Cnt (F := F) c hbO) (e : Fin 5) (k : Fin 8) :
    (ptOn c (dO (pO k) (hpO k)) (landO c A (pO k) (hpO k) (oO e k) (hO e k)) : sProp 𝕄)
      = ptOn c (dO (pO k) (hpO k)) (slabO A e) :=
  landed_eq (dO (pO k) (hpO k)) _ _ _ fun j => congrArg A (embO_eq e k j)

/-- The eight landed pieces are the scratch buffer holding the expert's slab. -/
abbrev lndO (c : Dev nD) (A : Cnt (F := F) c hbO) (o : Fin 8 → Fin 3 → ℕ) (h : OffsO o) : sProp 𝕄 :=
  iprop(ptOn c (dO ![0, 0] inb_S768x3072_S96x3072_0_0) (landO c A ![0, 0] inb_S768x3072_S96x3072_0_0 (o 0) (h 0))
    ∗ ptOn c (dO ![96, 0] inb_S768x3072_S96x3072_96_0) (landO c A ![96, 0] inb_S768x3072_S96x3072_96_0 (o 1) (h 1))
    ∗ ptOn c (dO ![192, 0] inb_S768x3072_S96x3072_192_0) (landO c A ![192, 0] inb_S768x3072_S96x3072_192_0 (o 2) (h 2))
    ∗ ptOn c (dO ![288, 0] inb_S768x3072_S96x3072_288_0) (landO c A ![288, 0] inb_S768x3072_S96x3072_288_0 (o 3) (h 3))
    ∗ ptOn c (dO ![384, 0] inb_S768x3072_S96x3072_384_0) (landO c A ![384, 0] inb_S768x3072_S96x3072_384_0 (o 4) (h 4))
    ∗ ptOn c (dO ![480, 0] inb_S768x3072_S96x3072_480_0) (landO c A ![480, 0] inb_S768x3072_S96x3072_480_0 (o 5) (h 5))
    ∗ ptOn c (dO ![576, 0] inb_S768x3072_S96x3072_576_0) (landO c A ![576, 0] inb_S768x3072_S96x3072_576_0 (o 6) (h 6))
    ∗ ptOn c (dO ![672, 0] inb_S768x3072_S96x3072_672_0) (landO c A ![672, 0] inb_S768x3072_S96x3072_672_0 (o 7) (h 7)))
theorem lndO_eq (c : Dev nD) (A : Cnt (F := F) c hbO) (e : Fin 5) :
    lndO c A (oO e) (hO e) = pt c scO (slabO A e) := by
  rw [pcsO_eq]
  unfold lndO pcsO
  exact congr (congrArg BIBase.sep (landO_eq c A e 0)) (congr (congrArg BIBase.sep (landO_eq c A e 1)) (congr (congrArg BIBase.sep (landO_eq c A e 2))
    (congr (congrArg BIBase.sep (landO_eq c A e 3)) (congr (congrArg BIBase.sep (landO_eq c A e 4)) (congr (congrArg BIBase.sep (landO_eq c A e 5))
    (congr (congrArg BIBase.sep (landO_eq c A e 6)) (landO_eq c A e 7)))))))

end Cert.KernelIdeal.Hand

end
-- ==== Proof.Body.Steps.lean ====
/-
  Small steps the runs share: a window's memref as a points-to, a store of a whole memref, a fresh batch on a cell at
  zero, and the order of a slab's pieces.
-/
module

public import proofs.«01_k».proof.Proof.Body.Words
public import proofs.«01_k».proof.Proof.Body.Slabs
public import Idealize.ShloMosaic.Lib.VecWindow
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UD sig nD τ) ℕ

/-- Owning a memref at a vector, as its elements held at the vector written over junk. -/
theorem owns_ptOn (c : Dev nD) {sp : Space} {S : Shape} {e : EltTy} (M : Memref sig .tc sp S e) (x : Vec F S e) :
    (owns (c : Thread nD τ) M fullShare x : sProp 𝕄) = ptOn c M (M.view.rep x) := owns_eq_rep (c : Thread nD τ) M fullShare x

/-- Contents that read `x` through a memref, held on its elements. -/
theorem ptOn_read (c : Dev nD) {sp : Space} {S : Shape} {e : EltTy} (M : Memref sig .tc sp S e) (f : Cnt (F := F) c M) (x : Vec F S e)
    (h : M.view.read (Elt F) f = x) : (ptOn c M f : sProp 𝕄) = ptOn c M (M.view.rep x) := by
  refine pointsTo_congr fun i hi => ?_
  obtain ⟨j, -, rfl⟩ := Finset.mem_map.1 hi
  have h3 := (congrFun h j).trans (congrFun (View.read_rep (Val := Elt F) M.view x) j).symm
  simpa only [View.read_apply, cast_inj] using h3

/-- After a store of the memref's own sizes the memref is owned at the payload. -/
theorem ptOn_full (c : Dev nD) {sp : Space} {S : Shape} {e : EltTy} (M : Memref sig .tc sp S e) (f : Cnt (F := F) c M) {off : Fin S.rank → ℕ}
    (inb : ∀ a, off a + S.size a ≤ S.size a) (w : Vec F S e) :
    (ptOn c M (M.view.writes (Elt F) f [⟨Rect.unit off S.size inb, w⟩]) : sProp 𝕄) = ptOn c M (M.view.rep w) := by
  exact ptOn_read c M _ w (View.read_writes_full M.view f inb w [])

/-- A store of a whole buffer's own sizes leaves the payload, and a load of them reads it. -/
theorem pt_full (c : Dev nD) {S : Shape} {e : EltTy} (M : Memref sig .tc .vmem S e) (g : Vec F S e → Cnt (F := F) c M)
    (hg : ∀ f, g (M.view.read (Elt F) f) = f) (f : Cnt (F := F) c M) {off : Fin S.rank → ℕ} (inb : ∀ a, off a + S.size a ≤ S.size a) (w : Vec F S e) :
    (pt c M (M.view.writes (Elt F) f [⟨Rect.unit off S.size inb, w⟩]) : sProp 𝕄) = pt c M (g w) := by
  rw [← hg (M.view.writes (Elt F) f [⟨Rect.unit off S.size inb, w⟩]), View.read_writes_full]

/-- A fresh batch of eight on a cell at zero. -/
theorem startI (c : Dev nD) (A : Cnt (F := F) c hbI) (o : Fin 8 → Fin 3 → ℕ) (h : OffsI o) :
    (semVal ((c : Thread nD τ), SemLoc.dma (sig := sig) ⟨12, by decide⟩) 0 : sProp 𝕄) ⊢ |={Set.univ}=>
      Transfers.Batch (countersEmb (U := Pipeline.UD sig nD τ)) (c : Thread nD τ) (.dma 12) () nI (dlvI c A o h) 0 0 :=
  Transfers.batch_alloc' (Lvl := ℕ) (countersEmb (U := Pipeline.UD sig nD τ)) (c : Thread nD τ) () nI (dlvI c A o h) (sm := SemLoc.dma 12) (E := Set.univ)
theorem startO (c : Dev nD) (A : Cnt (F := F) c hbO) (o : Fin 8 → Fin 3 → ℕ) (h : OffsO o) :
    (semVal ((c : Thread nD τ), SemLoc.dma (sig := sig) ⟨13, by decide⟩) 0 : sProp 𝕄) ⊢ |={Set.univ}=>
      Transfers.Batch (countersEmb (U := Pipeline.UD sig nD τ)) (c : Thread nD τ) (.dma 13) () nO (dlvO c A o h) 0 0 :=
  Transfers.batch_alloc' (Lvl := ℕ) (countersEmb (U := Pipeline.UD sig nD τ)) (c : Thread nD τ) () nO (dlvO c A o h) (sm := SemLoc.dma 13) (E := Set.univ)

/-! ## What the stores leave, with the loads read off -/

/-- The tile: the two products through the squashing, of what the windows and the narrow matrices hold. -/
theorem tile_end (c : Dev nD) (arg1 : Memref sig .tc .vmem S512x768 .f32) (arg3 : Memref sig .tc .vmem S1x3072 .f32)
    (arg5 : Memref sig .tc .vmem S1x768 .f32) (arg12 : Memref sig .tc .vmem S512x768 .f32) (f : Cnt (F := F) c arg12) (x1 : Vec F S512x768 .f32)
    (x3 : Vec F S1x3072 .f32) (x5 : Vec F S1x768 .f32) (fw1 : Vec F S3072x768 .bf16) (fw2 : Vec F S768x3072 .bf16) :
    (ptOn c arg12 (arg12.view.writes (Elt F) f [⟨Rect.unit ![0, 0] S512x768.size inb_S512x768_S512x768_0_0,
      k0_pay20 (View.readAt (Elt F) arg1.view (Rect.unit ![0, 0] S512x768.size inb_S512x768_S512x768_0_0).toLoadRect (arg1.view.rep x1))
        (View.readAt (Elt F) scW1.view (Rect.unit ![0, 0] S3072x768.size inb_S3072x768_S3072x768_0_0).toLoadRect fw1)
        (View.readAt (Elt F) arg3.view (Rect.unit ![0, 0] S1x3072.size inb_S1x3072_S1x3072_0_0).toLoadRect (arg3.view.rep x3))
        (View.readAt (Elt F) scW2.view (Rect.unit ![0, 0] S768x3072.size inb_S768x3072_S768x3072_0_0).toLoadRect fw2)
        (View.readAt (Elt F) arg5.view (Rect.unit ![0, 0] S1x768.size inb_S1x768_S1x768_0_0).toLoadRect (arg5.view.rep x5))⟩]) : sProp 𝕄)
      ⊢ ptOn c arg12 (arg12.view.rep (k0_pay20 x1 fw1 x3 fw2 x5)) := by
  rw [ptOn_full, View.readAt_rep_full, View.readAt_rep_full, View.readAt_rep_full, View.readAt_full, View.readAt_full]
  exact .rfl

theorem tile_end0 (c : Dev nD) (arg1 : Memref sig .tc .vmem S512x768 .f32) (arg2 : Memref sig .tc .vmem S3072x768 .f32)
    (arg3 : Memref sig .tc .vmem S1x3072 .f32) (arg4 : Memref sig .tc .vmem S768x3072 .f32)
    (arg5 : Memref sig .tc .vmem S1x768 .f32) (arg12 : Memref sig .tc .vmem S512x768 .f32) (f : Cnt (F := F) c arg12) (x1 : Vec F S512x768 .f32)
    (x2 : Vec F S3072x768 .f32) (x3 : Vec F S1x3072 .f32) (x4 : Vec F S768x3072 .f32) (x5 : Vec F S1x768 .f32) :
    (ptOn c arg12 (arg12.view.writes (Elt F) f [⟨Rect.unit ![0, 0] S512x768.size inb_S512x768_S512x768_0_0,
      k0_pay20 (View.readAt (Elt F) arg1.view (Rect.unit ![0, 0] S512x768.size inb_S512x768_S512x768_0_0).toLoadRect (arg1.view.rep x1))
        (View.readCov scW1.view [⟨Rect.unit ![0, 0] S3072x768.size inb_S3072x768_S3072x768_0_0,
          k0_pay2 (View.readAt (Elt F) arg2.view (Rect.unit ![0, 0] S3072x768.size inb_S3072x768_S3072x768_0_0).toLoadRect (arg2.view.rep x2))⟩] (Rect.unit ![0, 0] S3072x768.size inb_S3072x768_S3072x768_0_0).toLoadRect)
        (View.readAt (Elt F) arg3.view (Rect.unit ![0, 0] S1x3072.size inb_S1x3072_S1x3072_0_0).toLoadRect (arg3.view.rep x3))
        (View.readCov scW2.view [⟨Rect.unit ![0, 0] S768x3072.size inb_S768x3072_S768x3072_0_0,
          k0_pay3 (View.readAt (Elt F) arg4.view (Rect.unit ![0, 0] S768x3072.size inb_S768x3072_S768x3072_0_0).toLoadRect (arg4.view.rep x4))⟩] (Rect.unit ![0, 0] S768x3072.size inb_S768x3072_S768x3072_0_0).toLoadRect)
        (View.readAt (Elt F) arg5.view (Rect.unit ![0, 0] S1x768.size inb_S1x768_S1x768_0_0).toLoadRect (arg5.view.rep x5))⟩]) : sProp 𝕄)
      ⊢ ptOn c arg12 (arg12.view.rep (k0_pay20 x1 (k0_pay2 x2) x3 (k0_pay3 x4) x5)) := by
  rw [ptOn_full, View.readCov_full, View.readCov_full, View.readAt_rep_full, View.readAt_rep_full, View.readAt_rep_full, View.readAt_rep_full,
    View.readAt_rep_full]

theorem hidNext_end (c : Dev nD) (i : grid0.Coords) (arg6 arg7 : Memref sig .tc .vmem S32x768 .f32) (arg9 : Memref sig .tc .vmem S5x3072 .f32)
    (x6 x7 : Vec F S32x768 .f32) (x9 : Vec F S5x3072 .f32) (fi : Vec F S3072x768 .f32) (fh : Vec F S32x3072 .f32) :
    (pt c scH (scH.view.writes (Elt F) fh [⟨Rect.unit ![0, 0] S32x3072.size inb_S32x3072_S32x3072_0_0,
      hidNext i (View.readAt (Elt F) arg6.view (Rect.unit ![0, 0] S32x768.size inb_S32x768_S32x768_0_0).toLoadRect (arg6.view.rep x6))
        (View.readAt (Elt F) arg7.view (Rect.unit ![0, 0] S32x768.size inb_S32x768_S32x768_0_0).toLoadRect (arg7.view.rep x7))
        (View.readAt (Elt F) scI.view (Rect.unit ![0, 0] S3072x768.size inb_S3072x768_S3072x768_0_0).toLoadRect fi)
        (View.readAt (Elt F) arg9.view (Rect.unit ![0, 0] S5x3072.size inb_S5x3072_S5x3072_0_0).toLoadRect (arg9.view.rep x9))
        (View.readAt (Elt F) scH.view (Rect.unit ![0, 0] S32x3072.size inb_S32x3072_S32x3072_0_0).toLoadRect fh)⟩]) : sProp 𝕄)
      ⊢ pt c scH (hidNext i x6 x7 fi x9 fh) := by
  rw [pt_full c scH id (fun _ => rfl), View.readAt_rep_full, View.readAt_rep_full, View.readAt_rep_full, View.readAt_full, View.readAt_full]
  exact .rfl
theorem hidInit_end (c : Dev nD) (i : grid0.Coords) (arg6 arg7 : Memref sig .tc .vmem S32x768 .f32) (arg9 : Memref sig .tc .vmem S5x3072 .f32)
    (x6 x7 : Vec F S32x768 .f32) (x9 : Vec F S5x3072 .f32) (fi : Vec F S3072x768 .f32) (fh : Vec F S32x3072 .f32) :
    (pt c scH (scH.view.writes (Elt F) fh [⟨Rect.unit ![0, 0] S32x3072.size inb_S32x3072_S32x3072_0_0,
      hidInit i (View.readAt (Elt F) arg6.view (Rect.unit ![0, 0] S32x768.size inb_S32x768_S32x768_0_0).toLoadRect (arg6.view.rep x6))
        (View.readAt (Elt F) arg7.view (Rect.unit ![0, 0] S32x768.size inb_S32x768_S32x768_0_0).toLoadRect (arg7.view.rep x7))
        (View.readAt (Elt F) scI.view (Rect.unit ![0, 0] S3072x768.size inb_S3072x768_S3072x768_0_0).toLoadRect fi)
        (View.readAt (Elt F) arg9.view (Rect.unit ![0, 0] S5x3072.size inb_S5x3072_S5x3072_0_0).toLoadRect (arg9.view.rep x9))⟩]) : sProp 𝕄)
      ⊢ pt c scH (hidInit i x6 x7 fi x9) := by
  rw [pt_full c scH id (fun _ => rfl), View.readAt_rep_full, View.readAt_rep_full, View.readAt_rep_full, View.readAt_full]
  exact .rfl
theorem accNext_end (c : Dev nD) (i : grid0.Coords) (arg6 arg7 : Memref sig .tc .vmem S32x768 .f32) (arg11 : Memref sig .tc .vmem S5x768 .f32)
    (x6 x7 : Vec F S32x768 .f32) (x11 : Vec F S5x768 .f32) (fo : Vec F S768x3072 .f32) (fh : Vec F S32x3072 .f32) (fa : Vec F S32x768 .f32) :
    (pt c scA (scA.view.writes (Elt F) fa [⟨Rect.unit ![0, 0] S32x768.size inb_S32x768_S32x768_0_0,
      accNext i (View.readAt (Elt F) arg6.view (Rect.unit ![0, 0] S32x768.size inb_S32x768_S32x768_0_0).toLoadRect (arg6.view.rep x6))
        (View.readAt (Elt F) arg7.view (Rect.unit ![0, 0] S32x768.size inb_S32x768_S32x768_0_0).toLoadRect (arg7.view.rep x7))
        (View.readAt (Elt F) scH.view (Rect.unit ![0, 0] S32x3072.size inb_S32x3072_S32x3072_0_0).toLoadRect fh)
        (View.readAt (Elt F) scO.view (Rect.unit ![0, 0] S768x3072.size inb_S768x3072_S768x3072_0_0).toLoadRect fo)
        (View.readAt (Elt F) arg11.view (Rect.unit ![0, 0] S5x768.size inb_S5x768_S5x768_0_0).toLoadRect (arg11.view.rep x11))
        (View.readAt (Elt F) scA.view (Rect.unit ![0, 0] S32x768.size inb_S32x768_S32x768_0_0).toLoadRect fa)⟩]) : sProp 𝕄)
      ⊢ pt c scA (accNext i x6 x7 fh fo x11 fa) := by
  rw [pt_full c scA id (fun _ => rfl), View.readAt_rep_full, View.readAt_rep_full, View.readAt_rep_full, View.readAt_full, View.readAt_full, View.readAt_full]
  exact .rfl
theorem accInit_end (c : Dev nD) (i : grid0.Coords) (arg6 arg7 : Memref sig .tc .vmem S32x768 .f32) (arg11 : Memref sig .tc .vmem S5x768 .f32)
    (x6 x7 : Vec F S32x768 .f32) (x11 : Vec F S5x768 .f32) (fo : Vec F S768x3072 .f32) (fh : Vec F S32x3072 .f32) (fa : Vec F S32x768 .f32) :
    (pt c scA (scA.view.writes (Elt F) fa [⟨Rect.unit ![0, 0] S32x768.size inb_S32x768_S32x768_0_0,
      accInit i (View.readAt (Elt F) arg6.view (Rect.unit ![0, 0] S32x768.size inb_S32x768_S32x768_0_0).toLoadRect (arg6.view.rep x6))
        (View.readAt (Elt F) arg7.view (Rect.unit ![0, 0] S32x768.size inb_S32x768_S32x768_0_0).toLoadRect (arg7.view.rep x7))
        (View.readAt (Elt F) scH.view (Rect.unit ![0, 0] S32x3072.size inb_S32x3072_S32x3072_0_0).toLoadRect fh)
        (View.readAt (Elt F) scO.view (Rect.unit ![0, 0] S768x3072.size inb_S768x3072_S768x3072_0_0).toLoadRect fo)
        (View.readAt (Elt F) arg11.view (Rect.unit ![0, 0] S5x768.size inb_S5x768_S5x768_0_0).toLoadRect (arg11.view.rep x11))⟩]) : sProp 𝕄)
      ⊢ pt c scA (accInit i x6 x7 fh fo x11) := by
  rw [pt_full c scA id (fun _ => rfl), View.readAt_rep_full, View.readAt_rep_full, View.readAt_rep_full, View.readAt_full, View.readAt_full]
  exact .rfl

/-- The top rows of a tile replaced by a batch's output rows where those are real. -/
def tileTop (i : grid0.Coords) (h10 : k0_cond10 i = 1#1) (y : Vec F S512x768 .f32) (acc : Vec F S32x768 .f32) : Vec F S512x768 .f32 :=
  VecWindow.put y ![0, 0] S8x768.size (k0_pay1 y (VecWindow.window acc (k0_off33 i) S8x768.size (k0_off33_inb i h10)))

theorem fin_end (c : Dev nD) (i : grid0.Coords) (h10 : k0_cond10 i = 1#1) (arg1 : Memref sig .tc .vmem S512x768 .f32) (arg3 : Memref sig .tc .vmem S1x3072 .f32)
    (arg5 : Memref sig .tc .vmem S1x768 .f32) (arg12 : Memref sig .tc .vmem S512x768 .f32) (f : Cnt (F := F) c arg12) (x1 : Vec F S512x768 .f32)
    (x3 : Vec F S1x3072 .f32) (x5 : Vec F S1x768 .f32) (fw1 : Vec F S3072x768 .bf16) (fw2 : Vec F S768x3072 .bf16) (fa : Vec F S32x768 .f32) :
    (ptOn c arg12 (arg12.view.writes (Elt F) f [⟨Rect.unit ![0, 0] S8x768.size inb_S512x768_S8x768_0_0,
      k0_pay1 (k0_pay20 (View.readAt (Elt F) arg1.view (Rect.unit ![0, 0] S512x768.size inb_S512x768_S512x768_0_0).toLoadRect (arg1.view.rep x1))
        (View.readAt (Elt F) scW1.view (Rect.unit ![0, 0] S3072x768.size inb_S3072x768_S3072x768_0_0).toLoadRect fw1)
        (View.readAt (Elt F) arg3.view (Rect.unit ![0, 0] S1x3072.size inb_S1x3072_S1x3072_0_0).toLoadRect (arg3.view.rep x3))
        (View.readAt (Elt F) scW2.view (Rect.unit ![0, 0] S768x3072.size inb_S768x3072_S768x3072_0_0).toLoadRect fw2)
        (View.readAt (Elt F) arg5.view (Rect.unit ![0, 0] S1x768.size inb_S1x768_S1x768_0_0).toLoadRect (arg5.view.rep x5)))
        (View.readAt (Elt F) scA.view (Rect.unit (s := S32x768) (k0_off33 i) S8x768.size (k0_off33_inb i h10)).toLoadRect fa)⟩,
      ⟨Rect.unit ![0, 0] S512x768.size inb_S512x768_S512x768_0_0,
      k0_pay20 (View.readAt (Elt F) arg1.view (Rect.unit ![0, 0] S512x768.size inb_S512x768_S512x768_0_0).toLoadRect (arg1.view.rep x1))
        (View.readAt (Elt F) scW1.view (Rect.unit ![0, 0] S3072x768.size inb_S3072x768_S3072x768_0_0).toLoadRect fw1)
        (View.readAt (Elt F) arg3.view (Rect.unit ![0, 0] S1x3072.size inb_S1x3072_S1x3072_0_0).toLoadRect (arg3.view.rep x3))
        (View.readAt (Elt F) scW2.view (Rect.unit ![0, 0] S768x3072.size inb_S768x3072_S768x3072_0_0).toLoadRect fw2)
        (View.readAt (Elt F) arg5.view (Rect.unit ![0, 0] S1x768.size inb_S1x768_S1x768_0_0).toLoadRect (arg5.view.rep x5))⟩]) : sProp 𝕄)
      ⊢ ptOn c arg12 (arg12.view.rep (tileTop i h10 (k0_pay20 x1 fw1 x3 fw2 x5) fa)) := by
  rw [View.readAt_rep_full, View.readAt_rep_full, View.readAt_rep_full, View.readAt_full, View.readAt_full,
    View.readAt_unit scA.view fa (k0_off33_inb i h10) rfl (k0_off33_inb i h10)]
  refine .of_eq (ptOn_read c arg12 _ _ ?_)
  rw [View.read_writes_cons_put arg12.view f _ _ _ rfl, View.read_writes_full]
  rfl

theorem w1_end (c : Dev nD) (arg2 : Memref sig .tc .vmem S3072x768 .f32) (x2 : Vec F S3072x768 .f32) (f : Vec F S3072x768 .bf16) :
    (pt c scW1 (scW1.view.writes (Elt F) f [⟨Rect.unit ![0, 0] S3072x768.size inb_S3072x768_S3072x768_0_0,
      k0_pay2 (View.readAt (Elt F) arg2.view (Rect.unit ![0, 0] S3072x768.size inb_S3072x768_S3072x768_0_0).toLoadRect (arg2.view.rep x2))⟩]) : sProp 𝕄)
      ⊢ pt c scW1 (k0_pay2 x2) := by
  rw [pt_full c scW1 id (fun _ => rfl), View.readAt_rep_full]
  exact .rfl
theorem w2_end (c : Dev nD) (arg4 : Memref sig .tc .vmem S768x3072 .f32) (x4 : Vec F S768x3072 .f32) (f : Vec F S768x3072 .bf16) :
    (pt c scW2 (scW2.view.writes (Elt F) f [⟨Rect.unit ![0, 0] S768x3072.size inb_S768x3072_S768x3072_0_0,
      k0_pay3 (View.readAt (Elt F) arg4.view (Rect.unit ![0, 0] S768x3072.size inb_S768x3072_S768x3072_0_0).toLoadRect (arg4.view.rep x4))⟩]) : sProp 𝕄)
      ⊢ pt c scW2 (k0_pay3 x4) := by
  rw [pt_full c scW2 id (fun _ => rfl), View.readAt_rep_full]
  exact .rfl

/-! ## A run of the body, in one line -/

abbrev own (c : Dev nD) {sp : Space} {S : Shape} {e : EltTy} (M : Memref sig .tc sp S e) (x : Vec F S e) : sProp 𝕄 := owns (c : Thread nD τ) M fullShare x
/-- The two cells at zero. -/
abbrev cellI (c : Dev nD) : sProp 𝕄 := semVal ((c : Thread nD τ), SemLoc.dma (sig := sig) ⟨12, by decide⟩) 0
abbrev cellO (c : Dev nD) : sProp 𝕄 := semVal ((c : Thread nD τ), SemLoc.dma (sig := sig) ⟨13, by decide⟩) 0

/-- The body over the tables, the scratches and the cells it is launched with. -/
abbrev body (i : grid0.Coords)
    (arg1 : Memref sig .tc .vmem S512x768 .f32) (harg1 : arg1.IsWhole) (arg2 : Memref sig .tc .vmem S3072x768 .f32) (harg2 : arg2.IsWhole)
    (arg3 : Memref sig .tc .vmem S1x3072 .f32) (harg3 : arg3.IsWhole) (arg4 : Memref sig .tc .vmem S768x3072 .f32) (harg4 : arg4.IsWhole)
    (arg5 : Memref sig .tc .vmem S1x768 .f32) (harg5 : arg5.IsWhole) (arg6 : Memref sig .tc .vmem S32x768 .f32) (harg6 : arg6.IsWhole)
    (arg7 : Memref sig .tc .vmem S32x768 .f32) (harg7 : arg7.IsWhole) (arg9 : Memref sig .tc .vmem S5x3072 .f32) (harg9 : arg9.IsWhole)
    (arg11 : Memref sig .tc .vmem S5x768 .f32) (harg11 : arg11.IsWhole) (arg12 : Memref sig .tc .vmem S512x768 .f32) (harg12 : arg12.IsWhole) :
    Prog (TpuEff nD τ sig (Elt F) Λ₀ .tc) PUnit :=
  cc0__fused_kernel i arg1 harg1 arg2 harg2 arg3 harg3 arg4 harg4 arg5 harg5 arg6 harg6 arg7 harg7 hbI (Memref.isWhole_whole _) arg9 harg9
    hbO (Memref.isWhole_whole _) arg11 harg11 arg12 harg12 scW1 (Memref.isWhole_whole _) scW2 (Memref.isWhole_whole _) scI (Memref.isWhole_whole _)
    scO (Memref.isWhole_whole _) scH (Memref.isWhole_whole _) scA (Memref.isWhole_whole _) cc0_scratch6 cc0_scratch7

/-- The body takes `P` to `Q`, owing nothing throughout. -/
def Runs (c : Dev nD) (i : grid0.Coords)
    (arg1 : Memref sig .tc .vmem S512x768 .f32) (harg1 : arg1.IsWhole) (arg2 : Memref sig .tc .vmem S3072x768 .f32) (harg2 : arg2.IsWhole)
    (arg3 : Memref sig .tc .vmem S1x3072 .f32) (harg3 : arg3.IsWhole) (arg4 : Memref sig .tc .vmem S768x3072 .f32) (harg4 : arg4.IsWhole)
    (arg5 : Memref sig .tc .vmem S1x768 .f32) (harg5 : arg5.IsWhole) (arg6 : Memref sig .tc .vmem S32x768 .f32) (harg6 : arg6.IsWhole)
    (arg7 : Memref sig .tc .vmem S32x768 .f32) (harg7 : arg7.IsWhole) (arg9 : Memref sig .tc .vmem S5x3072 .f32) (harg9 : arg9.IsWhole)
    (arg11 : Memref sig .tc .vmem S5x768 .f32) (harg11 : arg11.IsWhole) (arg12 : Memref sig .tc .vmem S512x768 .f32) (harg12 : arg12.IsWhole)
    (P Q : sProp 𝕄) : Prop :=
  ∀ (W : Waits sig Unit) (K : PUnit → sProp 𝕄),
    iprop(P ∗ owes (c : Thread nD τ) 0 W ∗ ((Q ∗ (∃ W', owes (c : Thread nD τ) 0 W')) -∗ K ⟨⟩))
      ⊢ wp frame (wpE (defs₀ (F := F)) Variants.none c none) Set.univ
          (body i arg1 harg1 arg2 harg2 arg3 harg3 arg4 harg4 arg5 harg5 arg6 harg6 arg7 harg7 arg9 harg9 arg11 harg11 arg12 harg12) K

/-! ## The first slab's places, as the first point spells them -/

def oZeroI : Fin 8 → Fin 3 → ℕ
  | 0 => ![0, 0, 0] | 1 => ![0, 384, 0] | 2 => ![0, 768, 0] | 3 => ![0, 1152, 0]
  | 4 => ![0, 1536, 0] | 5 => ![0, 1920, 0] | 6 => ![0, 2304, 0] | 7 => ![0, 2688, 0]
def oZeroO : Fin 8 → Fin 3 → ℕ
  | 0 => ![0, 0, 0] | 1 => ![0, 96, 0] | 2 => ![0, 192, 0] | 3 => ![0, 288, 0]
  | 4 => ![0, 384, 0] | 5 => ![0, 480, 0] | 6 => ![0, 576, 0] | 7 => ![0, 672, 0]
theorem oZeroI_eq : oZeroI = oI 0 := by decide
theorem oZeroO_eq : oZeroO = oO 0 := by decide
theorem hZeroI : OffsI oZeroI := oZeroI_eq ▸ hI 0
theorem hZeroO : OffsO oZeroO := oZeroO_eq ▸ hO 0

end Cert.KernelIdeal.Hand

end
-- ==== Proof.Body.RunTile.lean ====
/-
  The points with no stage: the first one, the one after the stages, and the last ones.
-/
module

public import proofs.«01_k».proof.Proof.Body.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UD sig nD τ) ℕ

variable (c : Dev nD) (i : grid0.Coords)
  (arg1 : Memref sig .tc .vmem S512x768 .f32) (harg1 : arg1.IsWhole) (arg2 : Memref sig .tc .vmem S3072x768 .f32) (harg2 : arg2.IsWhole)
  (arg3 : Memref sig .tc .vmem S1x3072 .f32) (harg3 : arg3.IsWhole) (arg4 : Memref sig .tc .vmem S768x3072 .f32) (harg4 : arg4.IsWhole)
  (arg5 : Memref sig .tc .vmem S1x768 .f32) (harg5 : arg5.IsWhole) (arg6 : Memref sig .tc .vmem S32x768 .f32) (harg6 : arg6.IsWhole)
  (arg7 : Memref sig .tc .vmem S32x768 .f32) (harg7 : arg7.IsWhole) (arg9 : Memref sig .tc .vmem S5x3072 .f32) (harg9 : arg9.IsWhole)
  (arg11 : Memref sig .tc .vmem S5x768 .f32) (harg11 : arg11.IsWhole) (arg12 : Memref sig .tc .vmem S512x768 .f32) (harg12 : arg12.IsWhole)

/-- The point between the stages and the last ones: the tile alone. -/
theorem run_tile (h1 : ¬ isZ (wArg i)) (h2 : ¬ k0_cond2 i = 1#1) (h6 : ¬ k0_cond6 i = 1#1) (h10 : ¬ k0_cond10 i = 1#1)
    (x1 : Vec F S512x768 .f32) (x3 : Vec F S1x3072 .f32) (x5 : Vec F S1x768 .f32) (x12 : Vec F S512x768 .f32) (fw1 : Vec F S3072x768 .bf16) (fw2 : Vec F S768x3072 .bf16) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg12 x12 ∗ pt c scW1 fw1 ∗ pt c scW2 fw2)
      iprop(own c arg1 x1 ∗ own c arg3 x3 ∗ own c arg5 x5 ∗ own c arg12 (k0_pay20 x1 fw1 x3 fw2 x5) ∗ pt c scW1 fw1 ∗ pt c scW2 fw2) := by
  intro W K
  unfold body own
  simp only [cc0__fused_kernel_eq_skeleton, owns_ptOn]; unfold cc0__fused_kernel_skel
  iintro ⟨⟨H1, H3, H5, H12, HW1, HW2⟩, HW, Hk⟩
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H12]; · iexact H12
    isplitl [HW1]; · iexact HW1
    iexact HW2
  · iexists _
    iexact HW

/-- A last point: the tile, its first rows replaced by a batch's output rows. -/
theorem run_fin (h1 : ¬ isZ (wArg i)) (h2 : ¬ k0_cond2 i = 1#1) (h6 : ¬ k0_cond6 i = 1#1) (h10 : k0_cond10 i = 1#1)
    (x1 : Vec F S512x768 .f32) (x3 : Vec F S1x3072 .f32) (x5 : Vec F S1x768 .f32) (x12 : Vec F S512x768 .f32) (fw1 : Vec F S3072x768 .bf16) (fw2 : Vec F S768x3072 .bf16)
    (fa : Vec F S32x768 .f32) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg12 x12 ∗ pt c scW1 fw1 ∗ pt c scW2 fw2 ∗ pt c scA fa)
      iprop(own c arg1 x1 ∗ own c arg3 x3 ∗ own c arg5 x5 ∗ own c arg12 (tileTop i h10 (k0_pay20 x1 fw1 x3 fw2 x5) fa)
      ∗ pt c scW1 fw1 ∗ pt c scW2 fw2 ∗ pt c scA fa) := by
  intro W K
  unfold body own
  simp only [cc0__fused_kernel_eq_skeleton, owns_ptOn]; unfold cc0__fused_kernel_skel
  iintro ⟨⟨H1, H3, H5, H12, HW1, HW2, HA⟩, HW, Hk⟩
  sl_exec
  sl_step
  iapply Hk
  isplitr [HW]
  · isplitl [H1]; · iexact H1
    isplitl [H3]; · iexact H3
    isplitl [H5]; · iexact H5
    isplitl [H12]; · iapply (fin_end c i h10 arg1 arg3 arg5 arg12 _ x1 x3 x5 fw1 fw2 fa); iexact H12
    isplitl [HW1]; · iexact HW1
    isplitl [HW2]; · iexact HW2
    iexact HA
  · iexists _
    iexact HW

/-- The first point: the narrow matrices are stored and the first slabs start. -/
theorem run_first (h1 : isZ (wArg i)) (h2 : ¬ k0_cond2 i = 1#1) (h6 : ¬ k0_cond6 i = 1#1) (h10 : ¬ k0_cond10 i = 1#1)
    (x1 : Vec F S512x768 .f32) (x2 : Vec F S3072x768 .f32) (x3 : Vec F S1x3072 .f32) (x4 : Vec F S768x3072 .f32) (x5 : Vec F S1x768 .f32)
    (x12 : Vec F S512x768 .f32) (fw1 : Vec F S3072x768 .bf16) (fw2 : Vec F S768x3072 .bf16)
    (fi : Vec F S3072x768 .f32) (fo : Vec F S768x3072 .f32) (A : Cnt (F := F) c hbI) (B : Cnt (F := F) c hbO) :
    Runs (F := F) c i arg1 harg1 arg2 harg2 arg3 harg3 arg4 harg4 arg5 harg5 arg6 harg6 arg7 harg7 arg9 harg9 arg11 harg11 arg12 harg12
      iprop(own c arg1 x1 ∗ own c arg2 x2 ∗ own c arg3 x3 ∗ own c arg4 x4 ∗ own c arg5 x5 ∗ own c arg12 x12 ∗ pt c scW1 fw1
      ∗ pt c scW2 fw2 ∗ pt c scI fi ∗ pt c scO fo ∗ srcI c A (oI 0) (hI 0) ∗ srcO c B (oO 0) (hO 0) ∗ cellI c ∗ cellO c)
      iprop(own c arg1 x1 ∗ own c arg2 x2 ∗ own c arg3 x3 ∗ own c arg4 x4 ∗ own c arg5 x5
      ∗ own c arg12 (k0_pay20 x1 (k0_pay2 x2) x3 (k0_pay3 x4) x5) ∗ pt c scW1 (k0_pay2 x2) ∗ pt c scW2 (k0_pay3 x4)
      ∗ flyI c A (oI 0) (hI 0) ∗ flyO c B (oO 0) (hO 0)) := by
  rw [srcI_congr c A (hI 0) hZeroI oZeroI_eq.symm, srcO_congr c B (hO 0) hZeroO oZeroO_eq.symm,
    flyI_congr c A (hI 0) hZeroI oZeroI_eq.symm, flyO_congr c B (hO 0) hZeroO oZeroO_eq.symm]
  intro W K
  unfold body own
  simp only [cc0__fused_kernel_eq_skeleton, owns_ptOn]; unfold cc0__fused_kernel_skel
  rw [pcsI_eq, pcsO_eq]
  iintro ⟨⟨H1, H2, H3, H4, H5, H12, HW1, HW2, ⟨HD0, HD1, HD2, HD3, HD4, HD5, HD6, HD7⟩, ⟨HE0, HE1, HE2, HE3, HE4, HE5, HE6, HE7⟩,
    ⟨HS0, HS1, HS2, HS3, HS4, HS5, HS6, HS7⟩, ⟨HT0, HT1, HT2, HT3, HT4, HT5, HT6, HT7⟩, HB, HC⟩, HW, Hk⟩
  imod (startI c A oZeroI hZeroI) $$ HB with HM
  imod (startO c B oZeroO hZeroO) $$ HC with HN
  unfold dlvI dlvO oZeroI oZeroO
  sl_exec
  sl_step
  iapply Hk
  isplitr [HW]
  · isplitl [H1]; · iexact H1
    isplitl [H2]; · iexact H2
    isplitl [H3]; · iexact H3
    isplitl [H4]; · iexact H4
    isplitl [H5]; · iexact H5
    isplitl [H12]; · iapply (tile_end0 c arg1 arg2 arg3 arg4 arg5 arg12 _ x1 x2 x3 x4 x5); iexact H12
    isplitl [HW1]; · iapply (w1_end c arg2 x2 fw1); iexact HW1
    isplitl [HW2]; · iapply (w2_end c arg4 x4 fw2); iexact HW2
    isplitl [HM]; · iexact HM
    iexact HN
  · iexists _
    iexact HW

end Cert.KernelIdeal.Hand

end
-- ==== Proof.Body.RunIn.lean ====
/-
  The points that run an input stage: the slab in flight is waited for, the hidden rows take it in, the next slab starts.
-/
module

public import proofs.«01_k».proof.Proof.Body.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UD sig nD τ) ℕ

variable (c : Dev nD) (i : grid0.Coords)
  (arg1 : Memref sig .tc .vmem S512x768 .f32) (harg1 : arg1.IsWhole) (arg2 : Memref sig .tc .vmem S3072x768 .f32) (harg2 : arg2.IsWhole)
  (arg3 : Memref sig .tc .vmem S1x3072 .f32) (harg3 : arg3.IsWhole) (arg4 : Memref sig .tc .vmem S768x3072 .f32) (harg4 : arg4.IsWhole)
  (arg5 : Memref sig .tc .vmem S1x768 .f32) (harg5 : arg5.IsWhole) (arg6 : Memref sig .tc .vmem S32x768 .f32) (harg6 : arg6.IsWhole)
  (arg7 : Memref sig .tc .vmem S32x768 .f32) (harg7 : arg7.IsWhole) (arg9 : Memref sig .tc .vmem S5x3072 .f32) (harg9 : arg9.IsWhole)
  (arg11 : Memref sig .tc .vmem S5x768 .f32) (harg11 : arg11.IsWhole) (arg12 : Memref sig .tc .vmem S512x768 .f32) (harg12 : arg12.IsWhole)

/-- The first such stage: the hidden rows are set. -/
theorem run_in_init (h1 : ¬ isZ (wArg i)) (h2 : k0_cond2 i = 1#1) (h3 : isZ (wStage i)) (h4 : ¬ isNZ (wStage i)) (h5 : k0_cond5 i = 1#1)
    (h6 : ¬ k0_cond6 i = 1#1) (h10 : ¬ k0_cond10 i = 1#1)
    (x1 : Vec F S512x768 .f32) (x3 : Vec F S1x3072 .f32) (x5 : Vec F S1x768 .f32) (x6 x7 : Vec F S32x768 .f32) (x9 : Vec F S5x3072 .f32)
    (x12 : Vec F S512x768 .f32) (fw1 : Vec F S3072x768 .bf16) (fw2 : Vec F S768x3072 .bf16) (f : Vec F S32x3072 .f32)
    (A : Cnt (F := F) c hbI) (e : Fin 5) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg6 x6 ∗ own c arg7 x7 ∗ own c arg9 x9 ∗ own c arg12 x12
      ∗ pt c scW1 fw1 ∗ pt c scW2 fw2 ∗ pt c scH f ∗ flyI c A (oI e) (hI e) ∗ srcI c A (oNextI i) (hNextI i h2 h5))
      iprop(own c arg1 x1 ∗ own c arg3 x3 ∗ own c arg5 x5 ∗ own c arg6 x6 ∗ own c arg7 x7 ∗ own c arg9 x9
      ∗ own c arg12 (k0_pay20 x1 fw1 x3 fw2 x5) ∗ pt c scW1 fw1 ∗ pt c scW2 fw2 ∗ pt c scH (hidInit i x6 x7 (slabI A e) x9)
      ∗ flyI c A (oNextI i) (hNextI i h2 h5) ∗ srcI c A (oI e) (hI e)) := by
  intro W K
  unfold body own
  simp only [cc0__fused_kernel_eq_skeleton, owns_ptOn]; unfold cc0__fused_kernel_skel
  iintro ⟨⟨H1, H3, H5, H6, H7, H9, H12, HW1, HW2, HR, HB, ⟨HS0, HS1, HS2, HS3, HS4, HS5, HS6, HS7⟩⟩, HW, Hk⟩
  unfold flyI dlvI
  sl_exec
  ihave HD := (BIBase.Entails.of_eq (lndI_eq (F := F) c A e)) $$ [HB_dst0 HB_dst1 HB_dst2 HB_dst3 HB_dst4 HB_dst5 HB_dst6 HB_dst7]
  · unfold lndI
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  imod (startI c A (oNextI i) (hNextI i h2 h5)) $$ HB with HN
  unfold dlvI
  sl_exec
  ihave HD := (BIBase.Entails.of_eq (pcsI_eq (F := F) c (slabI A e))) $$ HD
  unfold pcsI
  icases HD with ⟨HD0, HD1, HD2, HD3, HD4, HD5, HD6, HD7⟩
  unfold oNextI
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H6]; · iexact H6
    isplitl [H7]; · iexact H7
    isplitl [H9]; · iexact H9
    isplitl [H12]; · iexact H12
    isplitl [HW1]; · iexact HW1
    isplitl [HW2]; · iexact HW2
    isplitl [HR]; · iapply (hidInit_end c i arg6 arg7 arg9 x6 x7 x9 (slabI A e) f); iexact HR
    isplitl [HN]; · iexact HN
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  · iexists _
    iexact HW

/-- A later stage that starts another: the hidden rows are updated. -/
theorem run_in_mid (h1 : ¬ isZ (wArg i)) (h2 : k0_cond2 i = 1#1) (h3 : ¬ isZ (wStage i)) (h4 : isNZ (wStage i)) (h5 : k0_cond5 i = 1#1)
    (h6 : ¬ k0_cond6 i = 1#1) (h10 : ¬ k0_cond10 i = 1#1)
    (x1 : Vec F S512x768 .f32) (x3 : Vec F S1x3072 .f32) (x5 : Vec F S1x768 .f32) (x6 x7 : Vec F S32x768 .f32) (x9 : Vec F S5x3072 .f32)
    (x12 : Vec F S512x768 .f32) (fw1 : Vec F S3072x768 .bf16) (fw2 : Vec F S768x3072 .bf16) (f : Vec F S32x3072 .f32)
    (A : Cnt (F := F) c hbI) (e : Fin 5) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg6 x6 ∗ own c arg7 x7 ∗ own c arg9 x9 ∗ own c arg12 x12
      ∗ pt c scW1 fw1 ∗ pt c scW2 fw2 ∗ pt c scH f ∗ flyI c A (oI e) (hI e) ∗ srcI c A (oNextI i) (hNextI i h2 h5))
      iprop(own c arg1 x1 ∗ own c arg3 x3 ∗ own c arg5 x5 ∗ own c arg6 x6 ∗ own c arg7 x7 ∗ own c arg9 x9
      ∗ own c arg12 (k0_pay20 x1 fw1 x3 fw2 x5) ∗ pt c scW1 fw1 ∗ pt c scW2 fw2 ∗ pt c scH (hidNext i x6 x7 (slabI A e) x9 f)
      ∗ flyI c A (oNextI i) (hNextI i h2 h5) ∗ srcI c A (oI e) (hI e)) := by
  intro W K
  unfold body own
  simp only [cc0__fused_kernel_eq_skeleton, owns_ptOn]; unfold cc0__fused_kernel_skel
  iintro ⟨⟨H1, H3, H5, H6, H7, H9, H12, HW1, HW2, HR, HB, ⟨HS0, HS1, HS2, HS3, HS4, HS5, HS6, HS7⟩⟩, HW, Hk⟩
  unfold flyI dlvI
  sl_exec
  ihave HD := (BIBase.Entails.of_eq (lndI_eq (F := F) c A e)) $$ [HB_dst0 HB_dst1 HB_dst2 HB_dst3 HB_dst4 HB_dst5 HB_dst6 HB_dst7]
  · unfold lndI
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  imod (startI c A (oNextI i) (hNextI i h2 h5)) $$ HB with HN
  unfold dlvI
  sl_exec
  ihave HD := (BIBase.Entails.of_eq (pcsI_eq (F := F) c (slabI A e))) $$ HD
  unfold pcsI
  icases HD with ⟨HD0, HD1, HD2, HD3, HD4, HD5, HD6, HD7⟩
  unfold oNextI
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H6]; · iexact H6
    isplitl [H7]; · iexact H7
    isplitl [H9]; · iexact H9
    isplitl [H12]; · iexact H12
    isplitl [HW1]; · iexact HW1
    isplitl [HW2]; · iexact HW2
    isplitl [HR]; · iapply (hidNext_end c i arg6 arg7 arg9 x6 x7 x9 (slabI A e) f); iexact HR
    isplitl [HN]; · iexact HN
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  · iexists _
    iexact HW

/-- The last stage: nothing starts, and the slab and its cell come back. -/
theorem run_in_last (h1 : ¬ isZ (wArg i)) (h2 : k0_cond2 i = 1#1) (h3 : ¬ isZ (wStage i)) (h4 : isNZ (wStage i)) (h5 : ¬ k0_cond5 i = 1#1)
    (h6 : ¬ k0_cond6 i = 1#1) (h10 : ¬ k0_cond10 i = 1#1)
    (x1 : Vec F S512x768 .f32) (x3 : Vec F S1x3072 .f32) (x5 : Vec F S1x768 .f32) (x6 x7 : Vec F S32x768 .f32) (x9 : Vec F S5x3072 .f32)
    (x12 : Vec F S512x768 .f32) (fw1 : Vec F S3072x768 .bf16) (fw2 : Vec F S768x3072 .bf16) (f : Vec F S32x3072 .f32)
    (A : Cnt (F := F) c hbI) (e : Fin 5) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg6 x6 ∗ own c arg7 x7 ∗ own c arg9 x9 ∗ own c arg12 x12
      ∗ pt c scW1 fw1 ∗ pt c scW2 fw2 ∗ pt c scH f ∗ flyI c A (oI e) (hI e))
      iprop(own c arg1 x1 ∗ own c arg3 x3 ∗ own c arg5 x5 ∗ own c arg6 x6 ∗ own c arg7 x7 ∗ own c arg9 x9
      ∗ own c arg12 (k0_pay20 x1 fw1 x3 fw2 x5) ∗ pt c scW1 fw1 ∗ pt c scW2 fw2 ∗ pt c scH (hidNext i x6 x7 (slabI A e) x9 f)
      ∗ pt c scI (slabI A e) ∗ cellI c ∗ srcI c A (oI e) (hI e)) := by
  intro W K
  unfold body own
  simp only [cc0__fused_kernel_eq_skeleton, owns_ptOn]; unfold cc0__fused_kernel_skel
  iintro ⟨⟨H1, H3, H5, H6, H7, H9, H12, HW1, HW2, HR, HB⟩, HW, Hk⟩
  unfold flyI dlvI
  sl_exec
  ihave HD := (BIBase.Entails.of_eq (lndI_eq (F := F) c A e)) $$ [HB_dst0 HB_dst1 HB_dst2 HB_dst3 HB_dst4 HB_dst5 HB_dst6 HB_dst7]
  · unfold lndI
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H6]; · iexact H6
    isplitl [H7]; · iexact H7
    isplitl [H9]; · iexact H9
    isplitl [H12]; · iexact H12
    isplitl [HW1]; · iexact HW1
    isplitl [HW2]; · iexact HW2
    isplitl [HR]; · iapply (hidNext_end c i arg6 arg7 arg9 x6 x7 x9 (slabI A e) f); iexact HR
    isplitl [HD]; · iexact HD
    isplitl [HB]; · iexact HB
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  · iexists _
    iexact HW

end Cert.KernelIdeal.Hand

end
-- ==== Proof.Body.RunOut.lean ====
/-
  The points that run an output stage: the slab in flight is waited for, the output rows take it in, the next slab starts.
-/
module

public import proofs.«01_k».proof.Proof.Body.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (Pipeline.UD sig nD τ) ℕ

variable (c : Dev nD) (i : grid0.Coords)
  (arg1 : Memref sig .tc .vmem S512x768 .f32) (harg1 : arg1.IsWhole) (arg2 : Memref sig .tc .vmem S3072x768 .f32) (harg2 : arg2.IsWhole)
  (arg3 : Memref sig .tc .vmem S1x3072 .f32) (harg3 : arg3.IsWhole) (arg4 : Memref sig .tc .vmem S768x3072 .f32) (harg4 : arg4.IsWhole)
  (arg5 : Memref sig .tc .vmem S1x768 .f32) (harg5 : arg5.IsWhole) (arg6 : Memref sig .tc .vmem S32x768 .f32) (harg6 : arg6.IsWhole)
  (arg7 : Memref sig .tc .vmem S32x768 .f32) (harg7 : arg7.IsWhole) (arg9 : Memref sig .tc .vmem S5x3072 .f32) (harg9 : arg9.IsWhole)
  (arg11 : Memref sig .tc .vmem S5x768 .f32) (harg11 : arg11.IsWhole) (arg12 : Memref sig .tc .vmem S512x768 .f32) (harg12 : arg12.IsWhole)

/-- The first such stage: the output rows are set. -/
theorem run_out_init (h1 : ¬ isZ (wArg i)) (h2 : ¬ k0_cond2 i = 1#1) (h6 : k0_cond6 i = 1#1) (h7 : isZ (wOut i)) (h8 : ¬ isNZ (wOut i)) (h9 : k0_cond9 i = 1#1)
    (h10 : ¬ k0_cond10 i = 1#1)
    (x1 : Vec F S512x768 .f32) (x3 : Vec F S1x3072 .f32) (x5 : Vec F S1x768 .f32) (x6 x7 : Vec F S32x768 .f32) (x11 : Vec F S5x768 .f32)
    (x12 : Vec F S512x768 .f32) (fw1 : Vec F S3072x768 .bf16) (fw2 : Vec F S768x3072 .bf16) (fh : Vec F S32x3072 .f32) (f : Vec F S32x768 .f32)
    (A : Cnt (F := F) c hbO) (e : Fin 5) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg6 x6 ∗ own c arg7 x7 ∗ own c arg11 x11 ∗ own c arg12 x12
      ∗ pt c scW1 fw1 ∗ pt c scW2 fw2 ∗ pt c scH fh ∗ pt c scA f ∗ flyO c A (oO e) (hO e)
      ∗ srcO c A (oNextO i) (hNextO i h6 h9))
      iprop(own c arg1 x1 ∗ own c arg3 x3 ∗ own c arg5 x5 ∗ own c arg6 x6 ∗ own c arg7 x7 ∗ own c arg11 x11
      ∗ own c arg12 (k0_pay20 x1 fw1 x3 fw2 x5) ∗ pt c scW1 fw1 ∗ pt c scW2 fw2 ∗ pt c scH fh
      ∗ pt c scA (accInit i x6 x7 fh (slabO A e) x11) ∗ flyO c A (oNextO i) (hNextO i h6 h9) ∗ srcO c A (oO e) (hO e)) := by
  intro W K
  unfold body own
  simp only [cc0__fused_kernel_eq_skeleton, owns_ptOn]; unfold cc0__fused_kernel_skel
  iintro ⟨⟨H1, H3, H5, H6, H7, H11, H12, HW1, HW2, HH, HR, HB, ⟨HS0, HS1, HS2, HS3, HS4, HS5, HS6, HS7⟩⟩, HW, Hk⟩
  unfold flyO dlvO
  sl_exec
  ihave HD := (BIBase.Entails.of_eq (lndO_eq (F := F) c A e)) $$ [HB_dst0 HB_dst1 HB_dst2 HB_dst3 HB_dst4 HB_dst5 HB_dst6 HB_dst7]
  · unfold lndO
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  imod (startO c A (oNextO i) (hNextO i h6 h9)) $$ HB with HN
  unfold dlvO
  sl_exec
  ihave HD := (BIBase.Entails.of_eq (pcsO_eq (F := F) c (slabO A e))) $$ HD
  unfold pcsO
  icases HD with ⟨HD0, HD1, HD2, HD3, HD4, HD5, HD6, HD7⟩
  unfold oNextO
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H6]; · iexact H6
    isplitl [H7]; · iexact H7
    isplitl [H11]; · iexact H11
    isplitl [H12]; · iexact H12
    isplitl [HW1]; · iexact HW1
    isplitl [HW2]; · iexact HW2
    isplitl [HH]; · iexact HH
    isplitl [HR]; · iapply (accInit_end c i arg6 arg7 arg11 x6 x7 x11 (slabO A e) fh f); iexact HR
    isplitl [HN]; · iexact HN
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  · iexists _
    iexact HW

/-- A later stage that starts another: the output rows are updated. -/
theorem run_out_mid (h1 : ¬ isZ (wArg i)) (h2 : ¬ k0_cond2 i = 1#1) (h6 : k0_cond6 i = 1#1) (h7 : ¬ isZ (wOut i)) (h8 : isNZ (wOut i)) (h9 : k0_cond9 i = 1#1)
    (h10 : ¬ k0_cond10 i = 1#1)
    (x1 : Vec F S512x768 .f32) (x3 : Vec F S1x3072 .f32) (x5 : Vec F S1x768 .f32) (x6 x7 : Vec F S32x768 .f32) (x11 : Vec F S5x768 .f32)
    (x12 : Vec F S512x768 .f32) (fw1 : Vec F S3072x768 .bf16) (fw2 : Vec F S768x3072 .bf16) (fh : Vec F S32x3072 .f32) (f : Vec F S32x768 .f32)
    (A : Cnt (F := F) c hbO) (e : Fin 5) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg6 x6 ∗ own c arg7 x7 ∗ own c arg11 x11 ∗ own c arg12 x12
      ∗ pt c scW1 fw1 ∗ pt c scW2 fw2 ∗ pt c scH fh ∗ pt c scA f ∗ flyO c A (oO e) (hO e)
      ∗ srcO c A (oNextO i) (hNextO i h6 h9))
      iprop(own c arg1 x1 ∗ own c arg3 x3 ∗ own c arg5 x5 ∗ own c arg6 x6 ∗ own c arg7 x7 ∗ own c arg11 x11
      ∗ own c arg12 (k0_pay20 x1 fw1 x3 fw2 x5) ∗ pt c scW1 fw1 ∗ pt c scW2 fw2 ∗ pt c scH fh
      ∗ pt c scA (accNext i x6 x7 fh (slabO A e) x11 f) ∗ flyO c A (oNextO i) (hNextO i h6 h9) ∗ srcO c A (oO e) (hO e)) := by
  intro W K
  unfold body own
  simp only [cc0__fused_kernel_eq_skeleton, owns_ptOn]; unfold cc0__fused_kernel_skel
  iintro ⟨⟨H1, H3, H5, H6, H7, H11, H12, HW1, HW2, HH, HR, HB, ⟨HS0, HS1, HS2, HS3, HS4, HS5, HS6, HS7⟩⟩, HW, Hk⟩
  unfold flyO dlvO
  sl_exec
  ihave HD := (BIBase.Entails.of_eq (lndO_eq (F := F) c A e)) $$ [HB_dst0 HB_dst1 HB_dst2 HB_dst3 HB_dst4 HB_dst5 HB_dst6 HB_dst7]
  · unfold lndO
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  imod (startO c A (oNextO i) (hNextO i h6 h9)) $$ HB with HN
  unfold dlvO
  sl_exec
  ihave HD := (BIBase.Entails.of_eq (pcsO_eq (F := F) c (slabO A e))) $$ HD
  unfold pcsO
  icases HD with ⟨HD0, HD1, HD2, HD3, HD4, HD5, HD6, HD7⟩
  unfold oNextO
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H6]; · iexact H6
    isplitl [H7]; · iexact H7
    isplitl [H11]; · iexact H11
    isplitl [H12]; · iexact H12
    isplitl [HW1]; · iexact HW1
    isplitl [HW2]; · iexact HW2
    isplitl [HH]; · iexact HH
    isplitl [HR]; · iapply (accNext_end c i arg6 arg7 arg11 x6 x7 x11 (slabO A e) fh f); iexact HR
    isplitl [HN]; · iexact HN
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  · iexists _
    iexact HW

/-- The last stage: nothing starts, and the slab and its cell come back. -/
theorem run_out_last (h1 : ¬ isZ (wArg i)) (h2 : ¬ k0_cond2 i = 1#1) (h6 : k0_cond6 i = 1#1) (h7 : ¬ isZ (wOut i)) (h8 : isNZ (wOut i)) (h9 : ¬ k0_cond9 i = 1#1)
    (h10 : ¬ k0_cond10 i = 1#1)
    (x1 : Vec F S512x768 .f32) (x3 : Vec F S1x3072 .f32) (x5 : Vec F S1x768 .f32) (x6 x7 : Vec F S32x768 .f32) (x11 : Vec F S5x768 .f32)
    (x12 : Vec F S512x768 .f32) (fw1 : Vec F S3072x768 .bf16) (fw2 : Vec F S768x3072 .bf16) (fh : Vec F S32x3072 .f32) (f : Vec F S32x768 .f32)
    (A : Cnt (F := F) c hbO) (e : Fin 5) :
    Runs (F := F) c i arg1 harg1 arg2 harg2 arg3 harg3 arg4 harg4 arg5 harg5 arg6 harg6 arg7 harg7 arg9 harg9 arg11 harg11 arg12 harg12
      iprop(own c arg1 x1 ∗ own c arg3 x3 ∗ own c arg5 x5 ∗ own c arg6 x6 ∗ own c arg7 x7 ∗ own c arg11 x11 ∗ own c arg12 x12
      ∗ pt c scW1 fw1 ∗ pt c scW2 fw2 ∗ pt c scH fh ∗ pt c scA f ∗ flyO c A (oO e) (hO e))
      iprop(own c arg1 x1 ∗ own c arg3 x3 ∗ own c arg5 x5 ∗ own c arg6 x6 ∗ own c arg7 x7 ∗ own c arg11 x11
      ∗ own c arg12 (k0_pay20 x1 fw1 x3 fw2 x5) ∗ pt c scW1 fw1 ∗ pt c scW2 fw2 ∗ pt c scH fh
      ∗ pt c scA (accNext i x6 x7 fh (slabO A e) x11 f) ∗ pt c scO (slabO A e) ∗ cellO c ∗ srcO c A (oO e) (hO e)) := by
  intro W K
  unfold body own
  simp only [cc0__fused_kernel_eq_skeleton, owns_ptOn]; unfold cc0__fused_kernel_skel
  iintro ⟨⟨H1, H3, H5, H6, H7, H11, H12, HW1, HW2, HH, HR, HB⟩, HW, Hk⟩
  unfold flyO dlvO
  sl_exec
  ihave HD := (BIBase.Entails.of_eq (lndO_eq (F := F) c A e)) $$ [HB_dst0 HB_dst1 HB_dst2 HB_dst3 HB_dst4 HB_dst5 HB_dst6 HB_dst7]
  · unfold lndO
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  sl_exec
  sl_step
  ihave H12 := (tile_end c arg1 arg3 arg5 arg12 _ x1 x3 x5 fw1 fw2) $$ H12
  iapply Hk
  isplitr [HW]
  · isplitl [H1]; · iexact H1
    isplitl [H3]; · iexact H3
    isplitl [H5]; · iexact H5
    isplitl [H6]; · iexact H6
    isplitl [H7]; · iexact H7
    isplitl [H11]; · iexact H11
    isplitl [H12]; · iexact H12
    isplitl [HW1]; · iexact HW1
    isplitl [HW2]; · iexact HW2
    isplitl [HH]; · iexact HH
    isplitl [HR]; · iapply (accNext_end c i arg6 arg7 arg11 x6 x7 x11 (slabO A e) fh f); iexact HR
    isplitl [HD]; · iexact HD
    isplitl [HB]; · iexact HB
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  · iexists _
    iexact HW

end Cert.KernelIdeal.Hand

end
-- ==== Proof.Body.State.lean ====
/-
  What the body keeps between grid points: the narrow matrices from the first point on, the slabs in flight, the
  hidden rows after the input stages run so far, the output rows after the output stages run so far.
-/
module

public import proofs.«01_k».proof.Proof.Body.RunTile
public import proofs.«01_k».proof.Proof.Body.RunIn
public import proofs.«01_k».proof.Proof.Body.RunOut
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
local notation "𝕄" => MT nD τ sig Unit (Elt F) ℕ (Pipeline.UD sig nD τ) ℕ

/-! ## Passing from one slab to the next -/

/-- What a table holds besides two experts' slabs. -/
abbrev rstI (c : Dev nD) (A : Cnt (F := F) c hbI) (e e' : Fin 5) : sProp 𝕄 :=
  hbI.view.loc (c : Thread nD τ) ↦[(Finset.univ \ slabSetI e) \ slabSetI e']{fullShare} A
abbrev rstO (c : Dev nD) (A : Cnt (F := F) c hbO) (e e' : Fin 5) : sProp 𝕄 :=
  hbO.view.loc (c : Thread nD τ) ↦[(Finset.univ \ slabSetO e) \ slabSetO e']{fullShare} A
theorem othI_eq (c : Dev nD) (A : Cnt (F := F) c hbI) (e e' : Fin 5) (hne : e ≠ e') :
    (othI c A e : sProp 𝕄) = iprop(srcI c A (oI e') (hI e') ∗ rstI c A e e') := by
  have hs : slabSetI e' ⊆ Finset.univ \ slabSetI e := fun x hx => Finset.mem_sdiff.2 ⟨Finset.mem_univ _, fun hx' =>
    hne (Fin.ext (((mem_slabI e x).1 hx').symm.trans ((mem_slabI e' x).1 hx)))⟩
  rw [← slabI_eq]
  have h := pointsTo_union (ℓ := hbI.view.loc (c : Thread nD τ)) (I := slabSetI e') (J := (Finset.univ \ slabSetI e) \ slabSetI e') (f := A) (q := fullShare)
    (Ix := Unit) (Name := ℕ) (U := Pipeline.UD sig nD τ) (Lvl := ℕ) Finset.disjoint_sdiff
  rw [Finset.union_sdiff_of_subset hs] at h
  exact BI.equiv_iff.mp ⟨h.1, h.2⟩
theorem othO_eq (c : Dev nD) (A : Cnt (F := F) c hbO) (e e' : Fin 5) (hne : e ≠ e') :
    (othO c A e : sProp 𝕄) = iprop(srcO c A (oO e') (hO e') ∗ rstO c A e e') := by
  have hs : slabSetO e' ⊆ Finset.univ \ slabSetO e := fun x hx => Finset.mem_sdiff.2 ⟨Finset.mem_univ _, fun hx' =>
    hne (Fin.ext (((mem_slabO e x).1 hx').symm.trans ((mem_slabO e' x).1 hx)))⟩
  rw [← slabO_eq]
  have h := pointsTo_union (ℓ := hbO.view.loc (c : Thread nD τ)) (I := slabSetO e') (J := (Finset.univ \ slabSetO e) \ slabSetO e') (f := A) (q := fullShare)
    (Ix := Unit) (Name := ℕ) (U := Pipeline.UD sig nD τ) (Lvl := ℕ) Finset.disjoint_sdiff
  rw [Finset.union_sdiff_of_subset hs] at h
  exact BI.equiv_iff.mp ⟨h.1, h.2⟩
theorem rstI_comm (c : Dev nD) (A : Cnt (F := F) c hbI) (e e' : Fin 5) : (rstI c A e e' : sProp 𝕄) = rstI c A e' e := by
  unfold rstI; rw [sdiff_right_comm]
theorem rstO_comm (c : Dev nD) (A : Cnt (F := F) c hbO) (e e' : Fin 5) : (rstO c A e e' : sProp 𝕄) = rstO c A e' e := by
  unfold rstO; rw [sdiff_right_comm]

variable (m : (ℓ : Loc nD τ sig) → Buf (Elt F) ℓ) (c : Dev nD)

/-! ## The values -/

/-- The grid point numbered `n`. -/
def tp (n : ℕ) : Fin cfg0.N := ⟨n % 16, Nat.mod_lt _ (by decide)⟩
theorem tp_val (t : Fin cfg0.N) : tp t.val = t := Fin.ext (Nat.mod_eq_of_lt t.isLt)

/-- The two tables as the region finds them. -/
abbrev tblI : Cnt (F := F) c hbI := V m c main_arg6
abbrev tblO : Cnt (F := F) c hbO := V m c main_arg8

/-- The narrow matrices the first point stores. -/
def nw1 : Vec F S3072x768 .bf16 := k0_pay2 (iblk m c 1 (tp 0))
def nw2 : Vec F S768x3072 .bf16 := k0_pay3 (iblk m c 3 (tp 0))

/-- The hidden rows after input stages `0 … n`. -/
def hidAt : ℕ → Vec F S32x3072 .f32
  | 0 => hidInit (grid0.coords (tp 1)) (iblk m c 5 (tp 1)) (iblk m c 6 (tp 1)) (slabI (tblI m c) 0) (iblk m c 7 (tp 1))
  | n + 1 => hidNext (grid0.coords (tp (n + 2))) (iblk m c 5 (tp (n + 2))) (iblk m c 6 (tp (n + 2))) (slabI (tblI m c) (Fin.ofNat 5 (n + 1)))
      (iblk m c 7 (tp (n + 2))) (hidAt n)
/-- The output rows after output stages `0 … n`. -/
def accAt : ℕ → Vec F S32x768 .f32
  | 0 => accInit (grid0.coords (tp 6)) (iblk m c 5 (tp 6)) (iblk m c 6 (tp 6)) (hidAt m c 4) (slabO (tblO m c) 0) (iblk m c 8 (tp 6))
  | n + 1 => accNext (grid0.coords (tp (n + 7))) (iblk m c 5 (tp (n + 7))) (iblk m c 6 (tp (n + 7))) (hidAt m c 4)
      (slabO (tblO m c) (Fin.ofNat 5 (n + 1))) (iblk m c 8 (tp (n + 7))) (accAt n)

/-- The tile a point computes, and what it leaves in the output window. -/
def tileAt (t : Fin cfg0.N) : Vec F S512x768 .f32 := k0_pay20 (iblk m c 0 t) (nw1 m c) (iblk m c 2 t) (nw2 m c) (iblk m c 4 t)
open Classical in
def outAt (t : Fin cfg0.N) : Vec F S512x768 .f32 :=
  if h : k0_cond10 (grid0.coords t) = 1#1 then tileTop (grid0.coords t) h (tileAt m c t) (accAt m c 4) else tileAt m c t

/-! ## The resources before point `n` -/

def stW (n : ℕ) : sProp 𝕄 :=
  if n = 0 then iprop((∃ f, pt (F := F) c scW1 f) ∗ (∃ f, pt (F := F) c scW2 f)) else iprop(pt c scW1 (nw1 m c) ∗ pt c scW2 (nw2 m c))
def stI (n : ℕ) : sProp 𝕄 :=
  if h : 1 ≤ n ∧ n ≤ 5 then
    iprop(flyI c (tblI m c) (oI ⟨n - 1, by omega⟩) (hI ⟨n - 1, by omega⟩) ∗ othI c (tblI m c) ⟨n - 1, by omega⟩)
  else iprop((∃ f, pt (F := F) c scI f) ∗ cellI c ∗ pt c hbI (tblI m c))
def stO (n : ℕ) : sProp 𝕄 :=
  if h : 1 ≤ n ∧ n ≤ 10 then
    iprop(flyO c (tblO m c) (oO ⟨n - 6, by omega⟩) (hO ⟨n - 6, by omega⟩) ∗ othO c (tblO m c) ⟨n - 6, by omega⟩)
  else iprop((∃ f, pt (F := F) c scO f) ∗ cellO c ∗ pt c hbO (tblO m c))
def stH (n : ℕ) : sProp 𝕄 := if n ≤ 1 then iprop(∃ f, pt (F := F) c scH f) else pt c scH (hidAt m c (min (n - 2) 4))
def stA (n : ℕ) : sProp 𝕄 := if n ≤ 6 then iprop(∃ f, pt (F := F) c scA f) else pt c scA (accAt m c (min (n - 7) 4))
/-- Everything the body keeps before point `n`. -/
def stAll (n : ℕ) : sProp 𝕄 := iprop(stW m c n ∗ stI m c n ∗ stO m c n ∗ stH m c n ∗ stA m c n ∗ (∃ r, prngReg c r))

theorem stW_pos {n : ℕ} (h : n ≠ 0) : stW m c n = iprop(pt c scW1 (nw1 m c) ∗ pt c scW2 (nw2 m c)) := if_neg h
theorem stW_zero : stW (F := F) m c 0 = iprop((∃ f, pt (F := F) c scW1 f) ∗ (∃ f, pt (F := F) c scW2 f)) := if_pos rfl
theorem stI_fly {n : ℕ} (e : Fin 5) (h : n = e.val + 1) : stI m c n = iprop(flyI c (tblI m c) (oI e) (hI e) ∗ othI c (tblI m c) e) := by
  subst h; exact dif_pos ⟨by omega, by have := e.isLt; omega⟩
theorem stI_idle {n : ℕ} (h : n = 0 ∨ 6 ≤ n) : stI m c n = iprop((∃ f, pt (F := F) c scI f) ∗ cellI c ∗ pt c hbI (tblI m c)) :=
  dif_neg (by omega)
theorem stO_fly {n : ℕ} (e : Fin 5) (h : 1 ≤ n ∧ n ≤ 10) (he : n - 6 = e.val) : stO m c n = iprop(flyO c (tblO m c) (oO e) (hO e) ∗ othO c (tblO m c) e) := by
  obtain ⟨k, hk⟩ := e
  obtain rfl : n - 6 = k := he
  exact dif_pos h
theorem stO_idle {n : ℕ} (h : n = 0 ∨ 11 ≤ n) : stO m c n = iprop((∃ f, pt (F := F) c scO f) ∗ cellO c ∗ pt c hbO (tblO m c)) :=
  dif_neg (by omega)
theorem stH_any {n : ℕ} (h : n ≤ 1) : stH (F := F) m c n = iprop(∃ f, pt (F := F) c scH f) := if_pos h
theorem stH_at {n k : ℕ} (h : 2 ≤ n) (hk : min (n - 2) 4 = k) : stH m c n = pt c scH (hidAt m c k) := by subst hk; exact if_neg (by omega)
theorem stA_any {n : ℕ} (h : n ≤ 6) : stA (F := F) m c n = iprop(∃ f, pt (F := F) c scA f) := if_pos h
theorem stA_at {n k : ℕ} (h : 7 ≤ n) (hk : min (n - 7) 4 = k) : stA m c n = pt c scA (accAt m c k) := by subst hk; exact if_neg (by omega)

/-! ## Which way the body goes at each point -/

theorem way_first : let i := grid0.coords (tp 0); isZ (wArg i) ∧ ¬ k0_cond2 i = 1#1 ∧ ¬ k0_cond6 i = 1#1 ∧ ¬ k0_cond10 i = 1#1 := by decide
theorem way_in (t : Fin cfg0.N) (h : 1 ≤ t.val ∧ t.val ≤ 5) : let i := grid0.coords t;
    ¬ isZ (wArg i) ∧ k0_cond2 i = 1#1 ∧ (isZ (wStage i) ↔ t.val = 1) ∧ (isNZ (wStage i) ↔ t.val ≠ 1) ∧ (k0_cond5 i = 1#1 ↔ t.val ≠ 5)
      ∧ ¬ k0_cond6 i = 1#1 ∧ ¬ k0_cond10 i = 1#1 := by revert t; decide
theorem way_out (t : Fin cfg0.N) (h : 6 ≤ t.val ∧ t.val ≤ 10) : let i := grid0.coords t;
    ¬ isZ (wArg i) ∧ ¬ k0_cond2 i = 1#1 ∧ k0_cond6 i = 1#1 ∧ (isZ (wOut i) ↔ t.val = 6) ∧ (isNZ (wOut i) ↔ t.val ≠ 6)
      ∧ (k0_cond9 i = 1#1 ↔ t.val ≠ 10) ∧ ¬ k0_cond10 i = 1#1 := by revert t; decide
theorem way_late (t : Fin cfg0.N) (h : 11 ≤ t.val) : let i := grid0.coords t;
    ¬ isZ (wArg i) ∧ ¬ k0_cond2 i = 1#1 ∧ ¬ k0_cond6 i = 1#1 ∧ (k0_cond10 i = 1#1 ↔ t.val ≠ 11) := by revert t; decide

end Cert.KernelIdeal.Hand

end
-- ==== Proof.Body.Sound.lean ====
/-
  One grid point: from what the body keeps before it and its windows' contents, the body ends with what it keeps
  before the next point and its tile in the output window.
-/
module

public import proofs.«01_k».proof.Proof.Body.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
local notation "𝕄" => MT nD τ sig Unit (Elt F) ℕ (Pipeline.UD sig nD τ) ℕ

variable (m : (ℓ : Loc nD τ sig) → Buf (Elt F) ℓ) (c : Dev nD)

abbrev ms0 (t : Fin cfg0.N) : Memref sig .tc .vmem S512x768 .f32 := win0_0.stage (cfg0.slots t 0)
abbrev ms1 (t : Fin cfg0.N) : Memref sig .tc .vmem S3072x768 .f32 := win0_1.stage (cfg0.slots t 1)
abbrev ms2 (t : Fin cfg0.N) : Memref sig .tc .vmem S1x3072 .f32 := win0_2.stage (cfg0.slots t 2)
abbrev ms3 (t : Fin cfg0.N) : Memref sig .tc .vmem S768x3072 .f32 := win0_3.stage (cfg0.slots t 3)
abbrev ms4 (t : Fin cfg0.N) : Memref sig .tc .vmem S1x768 .f32 := win0_4.stage (cfg0.slots t 4)
abbrev ms5 (t : Fin cfg0.N) : Memref sig .tc .vmem S32x768 .f32 := win0_5.stage (cfg0.slots t 5)
abbrev ms6 (t : Fin cfg0.N) : Memref sig .tc .vmem S32x768 .f32 := win0_6.stage (cfg0.slots t 6)
abbrev ms7 (t : Fin cfg0.N) : Memref sig .tc .vmem S5x3072 .f32 := win0_7.stage (cfg0.slots t 7)
abbrev ms8 (t : Fin cfg0.N) : Memref sig .tc .vmem S5x768 .f32 := win0_8.stage (cfg0.slots t 8)
abbrev ms9 (t : Fin cfg0.N) : Memref sig .tc .vmem S512x768 .f32 := win0_9.stage (cfg0.slots t 9)

/-- The windows at point `t`: the nine inputs at their blocks, the output at `y`. -/
def wins (t : Fin cfg0.N) (y : Vec F S512x768 .f32) : sProp 𝕄 :=
  iprop(own c (ms0 t) (iblk m c 0 t) ∗ own c (ms1 t) (iblk m c 1 t) ∗ own c (ms2 t) (iblk m c 2 t) ∗ own c (ms3 t) (iblk m c 3 t)
    ∗ own c (ms4 t) (iblk m c 4 t) ∗ own c (ms5 t) (iblk m c 5 t) ∗ own c (ms6 t) (iblk m c 6 t) ∗ own c (ms7 t) (iblk m c 7 t)
    ∗ own c (ms8 t) (iblk m c 8 t) ∗ own c (ms9 t) y)

/-- What a point must do. -/
def Step (t : Fin cfg0.N) : Prop := ∀ (W : Waits sig Unit) (y : Vec F S512x768 .f32) (K : PUnit → sProp 𝕄),
  iprop(stAll m c t.val ∗ wins m c t y ∗ owes (c : Thread nD τ) 0 W
    ∗ (iprop(stAll m c (t.val + 1) ∗ wins m c t (outAt m c t) ∗ (∃ W', owes (c : Thread nD τ) 0 W')) -∗ K ⟨⟩))
  ⊢ wp frame (wpE (defs₀ (F := F)) Variants.none c none) Set.univ (bodyAt0 t) K

theorem outAt_tile (t : Fin cfg0.N) (h : ¬ k0_cond10 (grid0.coords t) = 1#1) : outAt m c t = tileAt m c t := dif_neg h
theorem outAt_top (t : Fin cfg0.N) (h : k0_cond10 (grid0.coords t) = 1#1) :
    outAt m c t = tileTop (grid0.coords t) h (tileAt m c t) (accAt m c 4) := dif_pos h

theorem hidAt_succ (t : Fin cfg0.N) (e : Fin 5) (n : ℕ) (hn : e.val = n + 1) (ht : t.val = n + 2) :
    hidNext (grid0.coords t) (iblk m c 5 t) (iblk m c 6 t) (slabI (tblI m c) e) (iblk m c 7 t) (hidAt m c n) = hidAt m c (n + 1) := by
  obtain rfl : t = tp (n + 2) := by rw [← ht, tp_val]
  obtain rfl : e = Fin.ofNat 5 (n + 1) := Fin.ext (by rw [← hn]; exact (Nat.mod_eq_of_lt e.isLt).symm)
  rfl
theorem accAt_succ (t : Fin cfg0.N) (e : Fin 5) (n : ℕ) (hn : e.val = n + 1) (ht : t.val = n + 7) :
    accNext (grid0.coords t) (iblk m c 5 t) (iblk m c 6 t) (hidAt m c 4) (slabO (tblO m c) e) (iblk m c 8 t) (accAt m c n) = accAt m c (n + 1) := by
  obtain rfl : t = tp (n + 7) := by rw [← ht, tp_val]
  obtain rfl : e = Fin.ofNat 5 (n + 1) := Fin.ext (by rw [← hn]; exact (Nat.mod_eq_of_lt e.isLt).symm)
  rfl

/-! ## The late points -/

theorem step_tile (t : Fin cfg0.N) (ht : t.val = 11) : Step m c t := by
  intro W y K
  obtain ⟨h1, h2, h6, h10⟩ := way_late t (by omega)
  have h10' : ¬ k0_cond10 (grid0.coords t) = 1#1 := fun h => absurd ht (h10.1 h)
  rw [outAt_tile m c t h10']
  unfold stAll wins
  rw [stW_pos m c (n := t.val) (by omega), stW_pos m c (n := t.val + 1) (by omega), stI_idle m c (n := t.val) (by omega),
    stI_idle m c (n := t.val + 1) (by omega), stO_idle m c (n := t.val) (by omega), stO_idle m c (n := t.val + 1) (by omega),
    stH_at m c (n := t.val) (k := 4) (by omega) (by omega), stH_at m c (n := t.val + 1) (k := 4) (by omega) (by omega),
    stA_at m c (n := t.val) (k := 4) (by omega) (by omega), stA_at m c (n := t.val + 1) (k := 4) (by omega) (by omega)]
  iintro ⟨⟨⟨HW1, HW2⟩, HI, HO, HH, HA, HP⟩, ⟨H0, H1, H2, H3, H4, H5, H6, H7, H8, H9⟩, Hw, Hk⟩
  iapply (run_tile c (grid0.coords t) _ _ _ _ _ _ _ _ _ _ _ _ _ _ _ _ _ _ _ _ h1 h2 h6 h10' (iblk m c 0 t) (iblk m c 2 t) (iblk m c 4 t) y (nw1 m c) (nw2 m c) W K)
  isplitl [H0 H2 H4 H9 HW1 HW2]
  · iframe
  isplitl [Hw]
  · iexact Hw
  iintro ⟨⟨H0, H2, H4, H9, HW1, HW2⟩, Hw⟩
  iapply Hk
  isplitl [HW1 HW2 HI HO HH HA HP]
  · iframe
  isplitr [Hw]
  · unfold tileAt; iframe
  · iexact Hw

theorem step_fin (t : Fin cfg0.N) (ht : 12 ≤ t.val) : Step m c t := by
  intro W y K
  obtain ⟨h1, h2, h6, h10⟩ := way_late t (by omega)
  have h10' : k0_cond10 (grid0.coords t) = 1#1 := h10.2 (by omega)
  rw [outAt_top m c t h10']
  unfold stAll wins
  rw [stW_pos m c (n := t.val) (by omega), stW_pos m c (n := t.val + 1) (by omega), stI_idle m c (n := t.val) (by omega),
    stI_idle m c (n := t.val + 1) (by omega), stO_idle m c (n := t.val) (by omega), stO_idle m c (n := t.val + 1) (by omega),
    stH_at m c (n := t.val) (k := 4) (by omega) (by omega), stH_at m c (n := t.val + 1) (k := 4) (by omega) (by omega),
    stA_at m c (n := t.val) (k := 4) (by omega) (by omega), stA_at m c (n := t.val + 1) (k := 4) (by omega) (by omega)]
  iintro ⟨⟨⟨HW1, HW2⟩, HI, HO, HH, HA, HP⟩, ⟨H0, H1, H2, H3, H4, H5, H6, H7, H8, H9⟩, Hw, Hk⟩
  iapply (run_fin c (grid0.coords t) _ _ _ _ _ _ _ _ _ _ _ _ _ _ _ _ _ _ _ _ h1 h2 h6 h10' (iblk m c 0 t) (iblk m c 2 t) (iblk m c 4 t) y (nw1 m c) (nw2 m c) (accAt m c 4) W K)
  isplitl [H0 H2 H4 H9 HW1 HW2 HA]
  · iframe
  isplitl [Hw]
  · iexact Hw
  iintro ⟨⟨H0, H2, H4, H9, HW1, HW2, HA⟩, Hw⟩
  iapply Hk
  isplitl [HW1 HW2 HI HO HH HA HP]
  · iframe
  isplitr [Hw]
  · unfold tileAt; iframe
  · iexact Hw

/-! ## The first point -/

theorem step_first (t : Fin cfg0.N) (ht : t = tp 0) : Step m c t := by
  intro W y K
  obtain ⟨h1, h2, h6, h10⟩ := way_first
  rw [← ht] at h1 h2 h6 h10
  have hv : t.val = 0 := by rw [ht]; rfl
  rw [outAt_tile m c t h10]
  unfold stAll wins
  rw [hv, stW_zero, stW_pos m c (n := 0 + 1) (by omega), stI_idle m c (n := 0) (by omega), stI_fly m c (n := 0 + 1) 0 rfl,
    stO_idle m c (n := 0) (by omega), stO_fly m c (n := 0 + 1) 0 (by omega) rfl, stH_any m c (n := 0) (by omega), stH_any m c (n := 0 + 1) (by omega),
    stA_any m c (n := 0) (by omega), stA_any m c (n := 0 + 1) (by omega), tblI_eq c _ 0, tblO_eq c _ 0]
  iintro ⟨⟨⟨⟨%f1, HW1⟩, ⟨%f2, HW2⟩⟩, ⟨⟨%fi, Hfi⟩, HcI, HsI, HoI⟩, ⟨⟨%fo, Hfo⟩, HcO, HsO, HoO⟩, HH, HA, HP⟩, ⟨H0, H1, H2, H3, H4, H5, H6, H7, H8, H9⟩, Hw, Hk⟩
  iapply (run_first c (grid0.coords t) _ _ _ _ _ _ _ _ _ _ _ _ _ _ _ _ _ _ _ _ h1 h2 h6 h10 (iblk m c 0 t) (iblk m c 1 t) (iblk m c 2 t) (iblk m c 3 t) (iblk m c 4 t) y f1 f2 fi fo (tblI m c) (tblO m c) W K)
  isplitl [H0 H1 H2 H3 H4 H9 HW1 HW2 Hfi Hfo HsI HsO HcI HcO]
  · iframe
  isplitl [Hw]
  · iexact Hw
  iintro ⟨⟨H0, H1, H2, H3, H4, H9, HW1, HW2, HfI, HfO⟩, Hw⟩
  iapply Hk
  isplitl [HW1 HW2 HfI HfO HoI HoO HH HA HP]
  · unfold nw1 nw2; rw [← ht]; iframe
  isplitr [Hw]
  · unfold tileAt nw1 nw2; rw [← ht]; iframe
  · iexact Hw

/-! ## The input stages -/

theorem step_in_init (t : Fin cfg0.N) (ht : t.val = 1) : Step m c t := by
  intro W y K
  obtain ⟨h1, h2, h3, h4, h5, h6, h10⟩ := way_in t (by omega)
  have h5' : k0_cond5 (grid0.coords t) = 1#1 := h5.2 (by omega)
  have he : ∃ e : Fin 5, t.val = e.val + 1 := ⟨⟨t.val - 1, by omega⟩, by show _ = t.val - 1 + 1; omega⟩
  obtain ⟨e, he⟩ := he
  have he' : ∃ e' : Fin 5, e'.val = e.val + 1 := ⟨⟨t.val, by omega⟩, he⟩
  obtain ⟨e', he'⟩ := he'
  have hne : e ≠ e' := fun h => by rw [← h] at he'; omega
  have hnx := oNextI_at t e e' he he'
  rw [outAt_tile m c t h10]
  unfold stAll wins
  rw [stW_pos m c (n := t.val) (by omega), stW_pos m c (n := t.val + 1) (by omega), stI_fly m c (n := t.val) e he,
    stI_fly m c (n := t.val + 1) e' (by omega), othI_eq c _ e e' hne, othI_eq c _ e' e hne.symm, rstI_comm c _ e' e,
    stO_fly m c (n := t.val) 0 (by omega) (by show _ = 0; omega), stO_fly m c (n := t.val + 1) 0 (by omega) (by show _ = 0; omega),
    stH_any m c (n := t.val) (by omega), stH_at m c (n := t.val + 1) (k := 0) (by omega) (by omega),
    stA_any m c (n := t.val) (by omega), stA_any m c (n := t.val + 1) (by omega)]
  iintro ⟨⟨⟨HW1, HW2⟩, ⟨Hf, Hn, Hr⟩, HO, ⟨%fh, HH⟩, HA, HP⟩, ⟨H0, H1, H2, H3, H4, H5, H6, H7, H8, H9⟩, Hw, Hk⟩
  iapply (run_in_init c (grid0.coords t) _ _ _ _ _ _ _ _ _ _ _ _ _ _ _ _ _ _ _ _ h1 h2 (h3.2 ht) (fun h => h4.1 h ht) h5' h6 h10 (iblk m c 0 t) (iblk m c 2 t) (iblk m c 4 t)
    (iblk m c 5 t) (iblk m c 6 t) (iblk m c 7 t) y (nw1 m c) (nw2 m c) fh (tblI m c) e W K)
  isplitl [H0 H2 H4 H5 H6 H7 H9 HW1 HW2 HH Hf Hn]
  · rw [srcI_congr c _ (hNextI (grid0.coords t) h2 h5') (hI e') hnx]; iframe
  isplitl [Hw]
  · iexact Hw
  rw [flyI_congr c _ (hNextI (grid0.coords t) h2 h5') (hI e') hnx]
  iintro ⟨⟨H0, H2, H4, H5, H6, H7, H9, HW1, HW2, HH, Hf, Hs⟩, Hw⟩
  iapply Hk
  isplitl [HW1 HW2 Hf Hs Hr HO HH HA HP]
  · rw [show hidAt m c 0 = hidInit (grid0.coords t) (iblk m c 5 t) (iblk m c 6 t) (slabI (tblI m c) e) (iblk m c 7 t) from by
      obtain rfl : t = tp 1 := by rw [← ht, tp_val]
      obtain rfl : e = 0 := Fin.ext (by show e.val = 0; omega)
      rfl]
    iframe
  isplitr [Hw]
  · unfold tileAt; iframe
  · iexact Hw

theorem step_in_mid (t : Fin cfg0.N) (ht : 2 ≤ t.val ∧ t.val ≤ 4) : Step m c t := by
  intro W y K
  obtain ⟨h1, h2, h3, h4, h5, h6, h10⟩ := way_in t (by omega)
  have h5' : k0_cond5 (grid0.coords t) = 1#1 := h5.2 (by omega)
  have he : ∃ e : Fin 5, t.val = e.val + 1 := ⟨⟨t.val - 1, by omega⟩, by show _ = t.val - 1 + 1; omega⟩
  obtain ⟨e, he⟩ := he
  have he' : ∃ e' : Fin 5, e'.val = e.val + 1 := ⟨⟨t.val, by omega⟩, he⟩
  obtain ⟨e', he'⟩ := he'
  have hne : e ≠ e' := fun h => by rw [← h] at he'; omega
  have hnx := oNextI_at t e e' he he'
  rw [outAt_tile m c t h10]
  unfold stAll wins
  rw [stW_pos m c (n := t.val) (by omega), stW_pos m c (n := t.val + 1) (by omega), stI_fly m c (n := t.val) e he,
    stI_fly m c (n := t.val + 1) e' (by omega), othI_eq c _ e e' hne, othI_eq c _ e' e hne.symm, rstI_comm c _ e' e,
    stO_fly m c (n := t.val) 0 (by omega) (by show _ = 0; omega), stO_fly m c (n := t.val + 1) 0 (by omega) (by show _ = 0; omega),
    stH_at m c (n := t.val) (k := t.val - 2) (by omega) (by omega), stH_at m c (n := t.val + 1) (k := t.val - 2 + 1) (by omega) (by omega),
    stA_any m c (n := t.val) (by omega), stA_any m c (n := t.val + 1) (by omega), ← hidAt_succ m c t e (t.val - 2) (by omega) (by omega)]
  iintro ⟨⟨⟨HW1, HW2⟩, ⟨Hf, Hn, Hr⟩, HO, HH, HA, HP⟩, ⟨H0, H1, H2, H3, H4, H5, H6, H7, H8, H9⟩, Hw, Hk⟩
  iapply (run_in_mid c (grid0.coords t) _ _ _ _ _ _ _ _ _ _ _ _ _ _ _ _ _ _ _ _ h1 h2 (fun h => absurd (h3.1 h) (by omega)) (h4.2 (by omega)) h5' h6 h10 (iblk m c 0 t) (iblk m c 2 t) (iblk m c 4 t)
    (iblk m c 5 t) (iblk m c 6 t) (iblk m c 7 t) y (nw1 m c) (nw2 m c) (hidAt m c (t.val - 2)) (tblI m c) e W K)
  isplitl [H0 H2 H4 H5 H6 H7 H9 HW1 HW2 HH Hf Hn]
  · rw [srcI_congr c _ (hNextI (grid0.coords t) h2 h5') (hI e') hnx]; iframe
  isplitl [Hw]
  · iexact Hw
  rw [flyI_congr c _ (hNextI (grid0.coords t) h2 h5') (hI e') hnx]
  iintro ⟨⟨H0, H2, H4, H5, H6, H7, H9, HW1, HW2, HH, Hf, Hs⟩, Hw⟩
  iapply Hk
  isplitl [HW1 HW2 Hf Hs Hr HO HH HA HP]
  · iframe
  isplitr [Hw]
  · unfold tileAt; iframe
  · iexact Hw

theorem step_in_last (t : Fin cfg0.N) (ht : t.val = 5) : Step m c t := by
  intro W y K
  obtain ⟨h1, h2, h3, h4, h5, h6, h10⟩ := way_in t (by omega)
  have h5' : ¬ k0_cond5 (grid0.coords t) = 1#1 := fun h => h5.1 h ht
  have he : ∃ e : Fin 5, t.val = e.val + 1 := ⟨⟨t.val - 1, by omega⟩, by show _ = t.val - 1 + 1; omega⟩
  obtain ⟨e, he⟩ := he
  rw [outAt_tile m c t h10]
  unfold stAll wins
  rw [stW_pos m c (n := t.val) (by omega), stW_pos m c (n := t.val + 1) (by omega), stI_fly m c (n := t.val) e he,
    stI_idle m c (n := t.val + 1) (by omega), tblI_eq c _ e,
    stO_fly m c (n := t.val) 0 (by omega) (by show _ = 0; omega), stO_fly m c (n := t.val + 1) 0 (by omega) (by show _ = 0; omega),
    stH_at m c (n := t.val) (k := 3) (by omega) (by omega), stH_at m c (n := t.val + 1) (k := 3 + 1) (by omega) (by omega),
    stA_any m c (n := t.val) (by omega), stA_any m c (n := t.val + 1) (by omega), ← hidAt_succ m c t e 3 (by omega) (by omega)]
  iintro ⟨⟨⟨HW1, HW2⟩, ⟨Hf, Hr⟩, HO, HH, HA, HP⟩, ⟨H0, H1, H2, H3, H4, H5, H6, H7, H8, H9⟩, Hw, Hk⟩
  iapply (run_in_last c (grid0.coords t) _ _ _ _ _ _ _ _ _ _ _ _ _ _ _ _ _ _ _ _ h1 h2 (fun h => absurd (h3.1 h) (by omega)) (h4.2 (by omega)) h5' h6 h10 (iblk m c 0 t) (iblk m c 2 t) (iblk m c 4 t)
    (iblk m c 5 t) (iblk m c 6 t) (iblk m c 7 t) y (nw1 m c) (nw2 m c) (hidAt m c 3) (tblI m c) e W K)
  isplitl [H0 H2 H4 H5 H6 H7 H9 HW1 HW2 HH Hf]
  · iframe
  isplitl [Hw]
  · iexact Hw
  iintro ⟨⟨H0, H2, H4, H5, H6, H7, H9, HW1, HW2, HH, Hl, Hc, Hs⟩, Hw⟩
  iapply Hk
  isplitl [HW1 HW2 Hl Hc Hs Hr HO HH HA HP]
  · isplitl [HW1 HW2]
    · iframe
    isplitl [Hl Hc Hs Hr]
    · isplitl [Hl]
      · iexists _; iexact Hl
      iframe
    iframe
  isplitr [Hw]
  · unfold tileAt; iframe
  · iexact Hw

/-! ## The output stages -/

theorem step_out_init (t : Fin cfg0.N) (ht : t.val = 6) : Step m c t := by
  intro W y K
  obtain ⟨h1, h2, h6, h7, h8, h9, h10⟩ := way_out t (by omega)
  have h9' : k0_cond9 (grid0.coords t) = 1#1 := h9.2 (by omega)
  have he : ∃ e : Fin 5, t.val = e.val + 6 := ⟨⟨t.val - 6, by omega⟩, by show _ = t.val - 6 + 6; omega⟩
  obtain ⟨e, he⟩ := he
  have he' : ∃ e' : Fin 5, e'.val = e.val + 1 := ⟨⟨t.val - 5, by omega⟩, by show t.val - 5 = _; omega⟩
  obtain ⟨e', he'⟩ := he'
  have hne : e ≠ e' := fun h => by rw [← h] at he'; omega
  have hnx := oNextO_at t e e' he he'
  rw [outAt_tile m c t h10]
  unfold stAll wins
  rw [stW_pos m c (n := t.val) (by omega), stW_pos m c (n := t.val + 1) (by omega), stI_idle m c (n := t.val) (by omega),
    stI_idle m c (n := t.val + 1) (by omega), stO_fly m c (n := t.val) e (by omega) (by omega),
    stO_fly m c (n := t.val + 1) e' (by omega) (by omega), othO_eq c _ e e' hne, othO_eq c _ e' e hne.symm, rstO_comm c _ e' e,
    stH_at m c (n := t.val) (k := 4) (by omega) (by omega), stH_at m c (n := t.val + 1) (k := 4) (by omega) (by omega),
    stA_any m c (n := t.val) (by omega), stA_at m c (n := t.val + 1) (k := 0) (by omega) (by omega)]
  iintro ⟨⟨⟨HW1, HW2⟩, HI, ⟨Hf, Hn, Hr⟩, HH, ⟨%fa, HA⟩, HP⟩, ⟨H0, H1, H2, H3, H4, H5, H6, H7, H8, H9⟩, Hw, Hk⟩
  iapply (run_out_init c (grid0.coords t) _ _ _ _ _ _ _ _ _ _ _ _ _ _ _ _ _ _ _ _ h1 h2 h6 (h7.2 ht) (fun h => h8.1 h ht) h9' h10 (iblk m c 0 t) (iblk m c 2 t) (iblk m c 4 t)
    (iblk m c 5 t) (iblk m c 6 t) (iblk m c 8 t) y (nw1 m c) (nw2 m c) (hidAt m c 4) fa (tblO m c) e W K)
  isplitl [H0 H2 H4 H5 H6 H8 H9 HW1 HW2 HH HA Hf Hn]
  · rw [srcO_congr c _ (hNextO (grid0.coords t) h6 h9') (hO e') hnx]; iframe
  isplitl [Hw]
  · iexact Hw
  rw [flyO_congr c _ (hNextO (grid0.coords t) h6 h9') (hO e') hnx]
  iintro ⟨⟨H0, H2, H4, H5, H6, H8, H9, HW1, HW2, HH, HA, Hf, Hs⟩, Hw⟩
  iapply Hk
  isplitl [HW1 HW2 HI Hf Hs Hr HH HA HP]
  · rw [show accAt m c 0 = accInit (grid0.coords t) (iblk m c 5 t) (iblk m c 6 t) (hidAt m c 4) (slabO (tblO m c) e) (iblk m c 8 t) from by
      obtain rfl : t = tp 6 := by rw [← ht, tp_val]
      obtain rfl : e = 0 := Fin.ext (by show e.val = 0; omega)
      rfl]
    iframe
  isplitr [Hw]
  · unfold tileAt; iframe
  · iexact Hw

theorem step_out_mid (t : Fin cfg0.N) (ht : 7 ≤ t.val ∧ t.val ≤ 9) : Step m c t := by
  intro W y K
  obtain ⟨h1, h2, h6, h7, h8, h9, h10⟩ := way_out t (by omega)
  have h9' : k0_cond9 (grid0.coords t) = 1#1 := h9.2 (by omega)
  have he : ∃ e : Fin 5, t.val = e.val + 6 := ⟨⟨t.val - 6, by omega⟩, by show _ = t.val - 6 + 6; omega⟩
  obtain ⟨e, he⟩ := he
  have he' : ∃ e' : Fin 5, e'.val = e.val + 1 := ⟨⟨t.val - 5, by omega⟩, by show t.val - 5 = _; omega⟩
  obtain ⟨e', he'⟩ := he'
  have hne : e ≠ e' := fun h => by rw [← h] at he'; omega
  have hnx := oNextO_at t e e' he he'
  rw [outAt_tile m c t h10]
  unfold stAll wins
  rw [stW_pos m c (n := t.val) (by omega), stW_pos m c (n := t.val + 1) (by omega), stI_idle m c (n := t.val) (by omega),
    stI_idle m c (n := t.val + 1) (by omega), stO_fly m c (n := t.val) e (by omega) (by omega),
    stO_fly m c (n := t.val + 1) e' (by omega) (by omega), othO_eq c _ e e' hne, othO_eq c _ e' e hne.symm, rstO_comm c _ e' e,
    stH_at m c (n := t.val) (k := 4) (by omega) (by omega), stH_at m c (n := t.val + 1) (k := 4) (by omega) (by omega),
    stA_at m c (n := t.val) (k := t.val - 7) (by omega) (by omega), stA_at m c (n := t.val + 1) (k := t.val - 7 + 1) (by omega) (by omega), ← accAt_succ m c t e (t.val - 7) (by omega) (by omega)]
  iintro ⟨⟨⟨HW1, HW2⟩, HI, ⟨Hf, Hn, Hr⟩, HH, HA, HP⟩, ⟨H0, H1, H2, H3, H4, H5, H6, H7, H8, H9⟩, Hw, Hk⟩
  iapply (run_out_mid c (grid0.coords t) _ _ _ _ _ _ _ _ _ _ _ _ _ _ _ _ _ _ _ _ h1 h2 h6 (fun h => absurd (h7.1 h) (by omega)) (h8.2 (by omega)) h9' h10 (iblk m c 0 t) (iblk m c 2 t) (iblk m c 4 t)
    (iblk m c 5 t) (iblk m c 6 t) (iblk m c 8 t) y (nw1 m c) (nw2 m c) (hidAt m c 4) (accAt m c (t.val - 7)) (tblO m c) e W K)
  isplitl [H0 H2 H4 H5 H6 H8 H9 HW1 HW2 HH HA Hf Hn]
  · rw [srcO_congr c _ (hNextO (grid0.coords t) h6 h9') (hO e') hnx]; iframe
  isplitl [Hw]
  · iexact Hw
  rw [flyO_congr c _ (hNextO (grid0.coords t) h6 h9') (hO e') hnx]
  iintro ⟨⟨H0, H2, H4, H5, H6, H8, H9, HW1, HW2, HH, HA, Hf, Hs⟩, Hw⟩
  iapply Hk
  isplitl [HW1 HW2 HI Hf Hs Hr HH HA HP]
  · iframe
  isplitr [Hw]
  · unfold tileAt; iframe
  · iexact Hw

theorem step_out_last (t : Fin cfg0.N) (ht : t.val = 10) : Step m c t := by
  intro W y K
  obtain ⟨h1, h2, h6, h7, h8, h9, h10⟩ := way_out t (by omega)
  have h9' : ¬ k0_cond9 (grid0.coords t) = 1#1 := fun h => h9.1 h ht
  have he : ∃ e : Fin 5, t.val = e.val + 6 := ⟨⟨t.val - 6, by omega⟩, by show _ = t.val - 6 + 6; omega⟩
  obtain ⟨e, he⟩ := he
  rw [outAt_tile m c t h10]
  unfold stAll wins
  rw [stW_pos m c (n := t.val) (by omega), stW_pos m c (n := t.val + 1) (by omega), stI_idle m c (n := t.val) (by omega),
    stI_idle m c (n := t.val + 1) (by omega), stO_fly m c (n := t.val) e (by omega) (by omega),
    stO_idle m c (n := t.val + 1) (by omega), tblO_eq c _ e,
    stH_at m c (n := t.val) (k := 4) (by omega) (by omega), stH_at m c (n := t.val + 1) (k := 4) (by omega) (by omega),
    stA_at m c (n := t.val) (k := 3) (by omega) (by omega), stA_at m c (n := t.val + 1) (k := 3 + 1) (by omega) (by omega), ← accAt_succ m c t e 3 (by omega) (by omega)]
  iintro ⟨⟨⟨HW1, HW2⟩, HI, ⟨Hf, Hr⟩, HH, HA, HP⟩, ⟨H0, H1, H2, H3, H4, H5, H6, H7, H8, H9⟩, Hw, Hk⟩
  iapply (run_out_last c (grid0.coords t) _ _ _ _ _ _ _ _ _ _ _ _ _ _ _ _ _ _ _ _ h1 h2 h6 (fun h => absurd (h7.1 h) (by omega)) (h8.2 (by omega)) h9' h10 (iblk m c 0 t) (iblk m c 2 t) (iblk m c 4 t)
    (iblk m c 5 t) (iblk m c 6 t) (iblk m c 8 t) y (nw1 m c) (nw2 m c) (hidAt m c 4) (accAt m c 3) (tblO m c) e W K)
  isplitl [H0 H2 H4 H5 H6 H8 H9 HW1 HW2 HH HA Hf]
  · iframe
  isplitl [Hw]
  · iexact Hw
  iintro ⟨⟨H0, H2, H4, H5, H6, H8, H9, HW1, HW2, HH, HA, Hl, Hc, Hs⟩, Hw⟩
  iapply Hk
  isplitl [HW1 HW2 HI Hl Hc Hs Hr HH HA HP]
  · isplitl [HW1 HW2]
    · iframe
    isplitl [HI]
    · iexact HI
    isplitl [Hl Hc Hs Hr]
    · isplitl [Hl]
      · iexists _; iexact Hl
      iframe
    iframe
  isplitr [Hw]
  · unfold tileAt; iframe
  · iexact Hw

/-- Every point does what it must. -/
theorem step_all (t : Fin cfg0.N) : Step m c t := by
  have h : t.val < 16 := t.isLt
  rcases Nat.lt_or_ge t.val 1 with h0 | h0
  · exact step_first m c t (Fin.ext (by show t.val = 0 % 16; omega))
  rcases Nat.lt_or_ge t.val 2 with h1 | h1
  · exact step_in_init m c t (by omega)
  rcases Nat.lt_or_ge t.val 5 with h2 | h2
  · exact step_in_mid m c t (by omega)
  rcases Nat.lt_or_ge t.val 6 with h3 | h3
  · exact step_in_last m c t (by omega)
  rcases Nat.lt_or_ge t.val 7 with h4 | h4
  · exact step_out_init m c t (by omega)
  rcases Nat.lt_or_ge t.val 10 with h5 | h5
  · exact step_out_mid m c t (by omega)
  rcases Nat.lt_or_ge t.val 11 with h6 | h6
  · exact step_out_last m c t (by omega)
  rcases Nat.lt_or_ge t.val 12 with h7 | h7
  · exact step_tile m c t (by omega)
  · exact step_fin m c t h7

end Cert.KernelIdeal.Hand

end
-- ==== Proof.Body.Launch.lean ====
/-
  The launch: the proof data of the one pipeline, its body obligation, the run of the whole program, and the frame
  read from the run.
-/
module

public import proofs.«01_k».proof.Proof.Body.Sound
public import Idealize.ShloMosaic.Adequacy
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
local notation "𝕄" => MT nD τ sig Unit (Elt F) ℕ (Pipeline.UD sig nD τ) ℕ

variable (m : (ℓ : Loc nD τ sig) → Buf (Elt F) ℓ) (ρ : Dev nD → PrngReg)

/-- The proof data: the arrays as the region finds them, the input windows kept, the output window at `outAt`, the
    invariant `stAll`, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := stAll m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem Phi_castSucc (c : Dev nD) (t : Fin cfg0.N) : (dats m 0 c).Φ t.castSucc = stAll m c t.val := by
  dsimp only [dats]; exact Pipeline.Dat.Φ_castSucc (fun n _ => stAll m c n) t
theorem succ_val {N : ℕ} {α : Sort _} (S : ℕ → α) (t : Fin N) : S (Fin.succ t).val = S (t.val + 1) := rfl
theorem Phi_succ (c : Dev nD) (t : Fin cfg0.N) : (dats m 0 c).Φ t.succ = stAll m c (t.val + 1) := by
  dsimp only [dats]; exact succ_val (fun n => stAll m c n) t

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_castSucc, Phi_succ]
  simp only [before_0, before_1, before_2, before_3, before_4, before_5, before_6, before_7, before_8, after_0, after_1, after_2, after_3, after_4, after_5, after_6, after_7, after_8, after_9]
  unfold Dat.owesAt Pipeline.owesWithin
  rw [show (dats m 0 c).owed t.castSucc = 0 from rfl, show (dats m 0 c).owed t.succ = 0 from rfl]
  iintro ⟨HS, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (step_all m c t W _ _)
  isplitl [HS]
  · iexact HS
  isplitl [H0 H1 H2 H3 H4 H5 H6 H7 H8 H9]
  · unfold wins; iframe
  isplitl [HW]
  · iexact HW
  unfold wins
  iintro ⟨HS, Hw, ⟨%W', HW⟩⟩
  isplitl [HS]
  · iexact HS
  isplitl [HW]
  · iexists W'
    isplitr
    · ipureintro; exact fun _ _ => Or.inl trivial
    · iexact HW
  iexact Hw

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The body's two transfer counters. -/
abbrev osem0 : Fin 2 → SemLoc sig := fun j => (![SemLoc.dma ⟨12, by decide⟩, SemLoc.dma ⟨13, by decide⟩] : Fin 2 → SemLoc sig) j
theorem ownSemFacts0 : Pipeline.OwnSemFacts spec0 osem0 := by decide
/-- The two tables the body's own transfers read. -/
def H0 : Finset (Ref sig .tc) := {main_arg6, main_arg8}
theorem H0_sub : H0 ⊆ Pipeline.restRefs sig spec0 := by decide
theorem PhiD0_eq (c : Dev nD) :
    (Pipeline.ΦD osem0 spec0 H0 (V m) c : sProp 𝕄)
      = iprop(((∃ f, pt (F := F) c scW1 f) ∗ (∃ f, pt (F := F) c scW2 f) ∗ (∃ f, pt (F := F) c scI f) ∗ (∃ f, pt (F := F) c scO f)
            ∗ (∃ f, pt (F := F) c scH f) ∗ (∃ f, pt (F := F) c scA f))
          ∗ (∃ r, prngReg c r) ∗ (cellI c ∗ cellO c) ∗ (pt c hbI (tblI m c) ∗ pt c hbO (tblO m c))) := by
  rw [Pipeline.ΦD_eq, scopedRest0_eq, Pipeline.ownSems0_eq_of_list c osem0 [0, 1] (by decide) (by decide),
    BI.bigSep_eq_bigSepL_of_eq [main_arg6, main_arg8] (by decide) (by decide)]
  rfl

theorem phi_in (c : Dev nD) : (Pipeline.ΦD osem0 spec0 H0 (V m) c : sProp 𝕄) ⊢ stAll m c 0 := by
  rw [PhiD0_eq]; unfold stAll
  rw [stW_zero, stI_idle m c (n := 0) (by omega), stO_idle m c (n := 0) (by omega), stH_any m c (n := 0) (by omega), stA_any m c (n := 0) (by omega)]
  iintro ⟨⟨H1, H2, H3, H4, H5, H6⟩, HP, ⟨Hc, Hd⟩, ⟨Ht, Hu⟩⟩
  iframe
theorem phi_out (c : Dev nD) : stAll m c 16 ⊢ (Pipeline.ΦD osem0 spec0 H0 (V m) c : sProp 𝕄) := by
  rw [PhiD0_eq]; unfold stAll
  rw [stW_pos m c (n := 16) (by omega), stI_idle m c (n := 16) (by omega), stO_idle m c (n := 16) (by omega),
    stH_at m c (n := 16) (k := 4) (by omega) (by omega), stA_at m c (n := 16) (k := 4) (by omega) (by omega)]
  iintro ⟨⟨H1, H2⟩, ⟨H3, Hc, Ht⟩, ⟨H4, Hd, Hu⟩, H5, H6, HP⟩
  isplitl [H1 H2 H3 H4 H5 H6]
  · isplitl [H1]
    · iexists _; iexact H1
    isplitl [H2]
    · iexists _; iexact H2
    isplitl [H3]
    · iexact H3
    isplitl [H4]
    · iexact H4
    isplitl [H5]
    · iexists _; iexact H5
    · iexists _; iexact H6
  iframe

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host line after the region reads the tiles and writes the result: neither is a table. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  show ∀ b ∈ H0, Proc.devRef .tc b ∉ ({Proc.devRef .tc main_call0_v9, Proc.devRef .tc main_v0} : Finset _)
  decide

/-- What the program's run ends with. -/
abbrev RunPost (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
theorem run_main : θ_run defs (onTc (τ := τ) (main (F := F))) (s₀ m ρ) (RunPost m) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := fun c => phi_in m c) (hout := fun c => phi_out m c)
    (Q' := RunPost m) (hQ' := fun _ h => h)

/-- A buffer that is no window's array and that the last host line does not write ends as the region found it. -/
theorem tail_of (c : Dev nD) (b : Ref sig .tc) (hb : b ≠ main_v0) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-- After the run every argument is as launched. -/
theorem args_of {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans ((tail_of m c main_arg0 (by decide) (by decide)).trans (V_main_arg0 m c)),
    ((h c).1 1).trans (((dats m 0 c).arrAt_in 1 rfl _).trans ((A_eq m c 1).trans (V_main_arg1 m c))),
    ((h c).2 main_arg2 (Pipeline.mem_restRefs_of main_arg2 (by decide) (by decide))).trans ((tail_of m c main_arg2 (by decide) (by decide)).trans (V_main_arg2 m c)),
    ((h c).1 3).trans (((dats m 0 c).arrAt_in 3 rfl _).trans ((A_eq m c 3).trans (V_main_arg3 m c))),
    ((h c).2 main_arg4 (Pipeline.mem_restRefs_of main_arg4 (by decide) (by decide))).trans ((tail_of m c main_arg4 (by decide) (by decide)).trans (V_main_arg4 m c)),
    ((h c).2 main_arg5 (Pipeline.mem_restRefs_of main_arg5 (by decide) (by decide))).trans ((tail_of m c main_arg5 (by decide) (by decide)).trans (V_main_arg5 m c)),
    ((h c).2 main_arg6 (Pipeline.mem_restRefs_of main_arg6 (by decide) (by decide))).trans ((tail_of m c main_arg6 (by decide) (by decide)).trans (V_main_arg6 m c)),
    ((h c).1 7).trans (((dats m 0 c).arrAt_in 7 rfl _).trans ((A_eq m c 7).trans (V_main_arg7 m c))),
    ((h c).2 main_arg8 (Pipeline.mem_restRefs_of main_arg8 (by decide) (by decide))).trans ((tail_of m c main_arg8 (by decide) (by decide)).trans (V_main_arg8 m c)),
    ((h c).1 8).trans (((dats m 0 c).arrAt_in 8 rfl _).trans ((A_eq m c 8).trans (V_main_arg9 m c)))⟩

/-- The frame: the program terminates, every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => args_of m h.1 c, h.2⟩) (run_main m ρ)

end Cert.KernelIdeal.Hand

end
-- ==== Proof.Value.Spec.lean ====
/-
  The mathematics of the problem on one row: the dense layers with their GELU, the router's weight, and the expert pair
  that a class token takes.
-/
module

public import proofs.«01_k».proof.Proof.Gen.KernelIdeal
public import Idealize.ShloMosaic.Lib.Pipeline.ValueKit

@[expose] public section

noncomputable section

namespace Cert.Spec

open Idealize.ShloMosaic

/-- The constant in the GELU: the f32 rounding of the root of one half. -/
def root : EReal := ((11863283 / 16777216 : ℝ) : EReal)

/-- The exact GELU, at the reference's constants. -/
def gelu (v : EReal) : EReal := ((1 / 2 : ℝ) : EReal) * v * (1 + Ideal.erf (v * root))

/-- The patterns of one half, in both formats. -/
theorem half_f32 : Ideal.ofBits .f32 0x3F000000#32 = ((1 / 2 : ℝ) : EReal) := by
  simp [Ideal.ofBits, Ideal.ieee, -EReal.coe_mul]; norm_num
theorem half_bf16 : Ideal.ofBits .bf16 0x3F00#16 = ((1 / 2 : ℝ) : EReal) := by
  simp [Ideal.ofBits, Ideal.ieee, -EReal.coe_mul]; norm_num
/-- The f32 pattern of the root is the root. -/
theorem root_f32 : Ideal.ofBits .f32 0x3F3504F3#32 = root := by
  simp [Ideal.ofBits, Ideal.ieee, -EReal.coe_mul, root]; norm_num

/-- A row through the first dense layer and the GELU. -/
def up (x : Fin 768 → EReal) (w : Fin 3072 → Fin 768 → EReal) (b : Fin 3072 → EReal) (j : Fin 3072) : EReal :=
  gelu ((∑ k, x k * w j k) + b j)

/-- Hidden values through the second dense layer. -/
def down (h : Fin 3072 → EReal) (w : Fin 768 → Fin 3072 → EReal) (b : Fin 768 → EReal) (d : Fin 768) : EReal :=
  (∑ j, h j * w d j) + b d

/-- The router's logit of a row and a gate row. -/
def logit (x g : Fin 768 → EReal) : EReal := ∑ k, x k * g k

/-- The left expert of a class token, and the right one. -/
def left (n : Fin 6) : Fin 5 := ⟨n.val / 2, by omega⟩
def right (n : Fin 6) : Fin 5 := ⟨3 + n.val % 2, by omega⟩

/-- The weight of the chosen side. -/
def weight (l : EReal) : EReal := if 0 ≤ l then Ideal.logistic l else 1 - Ideal.logistic l

/-- A row through expert `a` inward and expert `b` outward, weighted. -/
def pair (x : Fin 768 → EReal) (win : Fin 5 → Fin 3072 → Fin 768 → EReal) (bin : Fin 5 → Fin 3072 → EReal)
    (wout : Fin 5 → Fin 768 → Fin 3072 → EReal) (bout : Fin 5 → Fin 768 → EReal) (w : EReal) (a b : Fin 5) (d : Fin 768) : EReal :=
  down (up x (win a) (bin a)) (wout b) (bout b) d * w

/-- A class token's result: left inward and right outward where the logit is not negative, the other way elsewhere. -/
def token (x g : Fin 768 → EReal) (win : Fin 5 → Fin 3072 → Fin 768 → EReal) (bin : Fin 5 → Fin 3072 → EReal)
    (wout : Fin 5 → Fin 768 → Fin 3072 → EReal) (bout : Fin 5 → Fin 768 → EReal) (n : Fin 6) (d : Fin 768) : EReal :=
  if 0 ≤ logit x g then pair x win bin wout bout (weight (logit x g)) (left n) (right n) d
  else pair x win bin wout bout (weight (logit x g)) (right n) (left n) d

/-- The result at batch entry `b`, row `s`, column `d`: the first six rows are class tokens. -/
def value (x : Fin 4 → Fin 2048 → Fin 768 → EReal) (w1 : Fin 3072 → Fin 768 → EReal) (b1 : Fin 3072 → EReal)
    (w2 : Fin 768 → Fin 3072 → EReal) (b2 : Fin 768 → EReal) (g : Fin 6 → Fin 768 → EReal)
    (win : Fin 5 → Fin 3072 → Fin 768 → EReal) (bin : Fin 5 → Fin 3072 → EReal)
    (wout : Fin 5 → Fin 768 → Fin 3072 → EReal) (bout : Fin 5 → Fin 768 → EReal) (b : Fin 4) (s : Fin 2048) (d : Fin 768) : EReal :=
  if h : s.val < 6 then token (x b s) (g ⟨s.val, h⟩) win bin wout bout ⟨s.val, h⟩ d
  else down (up (x b s) w1 b1) w2 b2 d

end Cert.Spec

end
-- ==== Proof.Value.Block.lean ====
/-
  What the body's stages compute, read at an index: a tile through the dense layers, and the batch's rows through one
  expert at each stage.
-/
module

public import proofs.«01_k».proof.Proof.Value.Spec
public import proofs.«01_k».proof.Proof.Body.State
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic

/-- The name of the kernel's constant stands for the root. -/
theorem named_root (φ : FTy) (b : BitVec φ.bits) : (Named.named κ "half_sqrt" b : Ideal φ) = root := rfl

/-- A tile's row through the dense layers. -/
theorem tile_apply (x : Vec Ideal S512x768 .f32) (w1 : Vec Ideal S3072x768 .bf16) (b1 : Vec Ideal S1x3072 .f32)
    (w2 : Vec Ideal S768x3072 .bf16) (b2 : Vec Ideal S1x768 .f32) (i : Fin 512) (d : Fin 768) :
    k0_pay20 x w1 b1 w2 b2 (ix2 i d)
      = down (up (fun k => x (ix2 i k)) (fun j k => w1 (ix2 j k)) (fun j => b1 (ix2 (0 : Fin 1) j)))
          (fun d j => w2 (ix2 d j)) (fun d => b2 (ix2 (0 : Fin 1) d)) d := by
  pointwise [k0_pay20, down, up, gelu]
  simp only [Ideal.erf_def, named_root, half_bf16]

/-- A sum against a row that is one at `e` and zero elsewhere. -/
theorem one_hot (e : Fin 5) (w : BitVec 32) (hw : w = BitVec.ofNat 32 e.val) (f : Fin 5 → EReal) :
    (∑ x : Fin 5, (FloatOps.sitofp (F := Ideal) FTy.f32 (BitVec.setWidth 32 (IntOp.cmpi CmpIPredicate.eq (BitVec.ofNat 32 x.val) w)) : EReal) * f x)
      = f e := by
  subst hw
  rw [Finset.sum_eq_single e]
  · have h : (BitVec.setWidth 32 (IntOp.cmpi CmpIPredicate.eq (BitVec.ofNat 32 e.val) (BitVec.ofNat 32 e.val))) = 1#32 := by
      revert e; decide
    rw [h]
    have : (FloatOps.sitofp (F := Ideal) FTy.f32 (1#32) : EReal) = 1 := by
      show (((BitVec.toInt _ : ℝ)) : EReal) = _
      simp
    rw [this, one_mul]
  · intro x _ hx
    have h : (BitVec.setWidth 32 (IntOp.cmpi CmpIPredicate.eq (BitVec.ofNat 32 x.val) (BitVec.ofNat 32 e.val))) = 0#32 := by
      revert e x; decide
    rw [h]
    have : (FloatOps.sitofp (F := Ideal) FTy.f32 (0#32) : EReal) = 0 := by
      show (((BitVec.toInt _ : ℝ)) : EReal) = _
      simp
    rw [this, zero_mul]
  · intro h; exact absurd (Finset.mem_univ e) h

/-- The batch's rows through expert `e` inward, at a point whose stage is `e`. -/
theorem in_apply (e : Fin 5) (w : BitVec 32) (hw : w = BitVec.ofNat 32 e.val) (cls : Vec Ideal S32x768 .f32)
    (ein : Vec Ideal S3072x768 .f32) (bin : Vec Ideal S5x3072 .f32) (r : Fin 32) (j : Fin 3072) :
    k0_pay21 (k0_pay10 cls ein) (k0_pay11 (F := Ideal) w) bin (ix2 r j)
      = up (fun k => cls (ix2 r k)) (fun j k => ein (ix2 j k)) (fun j => bin (ix2 e j)) j := by
  pointwise [k0_pay21, k0_pay10, k0_pay11, up, gelu]
  simp only [Ideal.erf_def, named_root, half_f32]
  rw [one_hot e w hw fun x => bin (ix2 x j)]

/-- The batch's rows through expert `e` outward, at a point whose output stage is `e`. -/
theorem out_apply (e : Fin 5) (w : BitVec 32) (hw : w = BitVec.ofNat 32 e.val) (wt : Vec Ideal S32x1 .f32)
    (hid : Vec Ideal S32x3072 .f32) (eout : Vec Ideal S768x3072 .f32) (bout : Vec Ideal S5x768 .f32) (r : Fin 32) (d : Fin 768) :
    k0_pay25 w wt hid eout (constant S32x768 .f32 0x00000000#32) bout (ix2 r d)
      = down (fun j => hid (ix2 r j)) (fun d j => eout (ix2 d j)) (fun d => bout (ix2 e d)) d * wt (ix2 r (0 : Fin 1)) := by
  pointwise [k0_pay25, down]
  rw [one_hot e w hw fun x => bout (ix2 x d)]

/-- The expert that a row takes inward, and the one that it takes outward, as the body's words. -/
abbrev srcW (cls gd : Vec Ideal S32x768 .f32) : IVec S32x1 32 :=
  k0_pay9 (k0_pay4 cls gd) k0_pay5 k0_pay6 2#32 k0_pay7 k0_pay8 (Scalar.extui (Scalar.cmpi .sgt 2#32 0#32))
abbrev dstW (cls gd : Vec Ideal S32x768 .f32) : IVec S32x1 32 :=
  k0_pay18 (k0_pay13 cls gd) k0_pay14 k0_pay15 2#32 k0_pay16 k0_pay17 0#32

/-- A select on an equality of words that number experts. -/
theorem pick (a b : Fin 5) (x y : EReal) :
    Scalar.select (IntOp.cmpi CmpIPredicate.eq (BitVec.ofNat 32 a.val) (BitVec.ofNat 32 b.val)) x y = if a = b then x else y := by
  have h : IntOp.cmpi CmpIPredicate.eq (BitVec.ofNat 32 a.val) (BitVec.ofNat 32 b.val) = if a = b then 1#1 else 0#1 := by
    revert a b; decide
  rw [h]
  by_cases hab : a = b
  · rw [if_pos hab, if_pos hab]; rfl
  · rw [if_neg hab, if_neg hab]; rfl

theorem hid_init (e : Fin 5) (i : grid0.Coords) (hi : wStage i = BitVec.ofNat 32 e.val) (cls gd : Vec Ideal S32x768 .f32)
    (ein : Vec Ideal S3072x768 .f32) (bin : Vec Ideal S5x3072 .f32) (r : Fin 32) (s : Fin 5)
    (hs : srcW cls gd (ix2 r (0 : Fin 1)) = BitVec.ofNat 32 s.val) (j : Fin 3072) :
    hidInit i cls gd ein bin (ix2 r j) = if s = e
      then up (fun k => cls (ix2 r k)) (fun j k => ein (ix2 j k)) (fun j => bin (ix2 e j)) j else 0 := by
  rw [← in_apply e _ hi cls ein bin r j, ← pick, ← hs, ← hi]
  pointwise [hidInit, k0_pay23, k0_pay22]

theorem hid_next (e : Fin 5) (i : grid0.Coords) (hi : wStage i = BitVec.ofNat 32 e.val) (cls gd : Vec Ideal S32x768 .f32)
    (ein : Vec Ideal S3072x768 .f32) (bin : Vec Ideal S5x3072 .f32) (hid : Vec Ideal S32x3072 .f32) (r : Fin 32) (s : Fin 5)
    (hs : srcW cls gd (ix2 r (0 : Fin 1)) = BitVec.ofNat 32 s.val) (j : Fin 3072) :
    hidNext i cls gd ein bin hid (ix2 r j) = if s = e
      then up (fun k => cls (ix2 r k)) (fun j k => ein (ix2 j k)) (fun j => bin (ix2 e j)) j else hid (ix2 r j) := by
  rw [← in_apply e _ hi cls ein bin r j, ← pick, ← hs, ← hi]
  pointwise [hidNext, k0_pay24, k0_pay22]

theorem logit_apply (cls gd : Vec Ideal S32x768 .f32) (r : Fin 32) :
    k0_pay12 cls gd (ix2 r (0 : Fin 1)) = logit (fun k => cls (ix2 r k)) (fun k => gd (ix2 r k)) := by
  pointwise [k0_pay12, logit]

/-- A bit chosen by a proposition is the proposition's. -/
theorem ofBool_ite (p : Prop) [Decidable p] : BitVec.ofBool (decide p) = if p then 1#1 else 0#1 := by
  by_cases h : p <;> simp [h]

theorem left_apply (cls gd : Vec Ideal S32x768 .f32) (r : Fin 32) :
    k0_pay4 cls gd (ix2 r (0 : Fin 1)) = if 0 ≤ logit (fun k => cls (ix2 r k)) (fun k => gd (ix2 r k)) then 1#1 else 0#1 := by
  pointwise [k0_pay4, logit]
  exact ofBool_ite _

theorem left_apply' (cls gd : Vec Ideal S32x768 .f32) (r : Fin 32) :
    k0_pay13 cls gd (ix2 r (0 : Fin 1)) = if 0 ≤ logit (fun k => cls (ix2 r k)) (fun k => gd (ix2 r k)) then 1#1 else 0#1 := by
  pointwise [k0_pay13, k0_pay12, logit]
  exact ofBool_ite _

theorem weight_apply (cls gd : Vec Ideal S32x768 .f32) (r : Fin 32) :
    k0_pay19 (k0_pay12 cls gd) (k0_pay13 cls gd) (ix2 r (0 : Fin 1))
      = weight (logit (fun k => cls (ix2 r k)) (fun k => gd (ix2 r k))) := by
  pointwise [k0_pay19, k0_pay13, k0_pay12, weight, logit]

theorem acc_init (e : Fin 5) (i : grid0.Coords) (hi : wOut i = BitVec.ofNat 32 e.val) (cls gd : Vec Ideal S32x768 .f32)
    (hid : Vec Ideal S32x3072 .f32) (eout : Vec Ideal S768x3072 .f32) (bout : Vec Ideal S5x768 .f32) (r : Fin 32) (s : Fin 5)
    (hs : dstW cls gd (ix2 r (0 : Fin 1)) = BitVec.ofNat 32 s.val) (d : Fin 768) :
    accInit i cls gd hid eout bout (ix2 r d) = if s = e
      then down (fun j => hid (ix2 r j)) (fun d j => eout (ix2 d j)) (fun d => bout (ix2 e d)) d
        * weight (logit (fun k => cls (ix2 r k)) (fun k => gd (ix2 r k))) else 0 := by
  rw [← weight_apply, ← out_apply e _ hi, ← pick, ← hs, ← hi]
  pointwise [accInit, k0_pay27, k0_pay26]

theorem acc_next (e : Fin 5) (i : grid0.Coords) (hi : wOut i = BitVec.ofNat 32 e.val) (cls gd : Vec Ideal S32x768 .f32)
    (hid : Vec Ideal S32x3072 .f32) (eout : Vec Ideal S768x3072 .f32) (bout : Vec Ideal S5x768 .f32)
    (acc : Vec Ideal S32x768 .f32) (r : Fin 32) (s : Fin 5)
    (hs : dstW cls gd (ix2 r (0 : Fin 1)) = BitVec.ofNat 32 s.val) (d : Fin 768) :
    accNext i cls gd hid eout bout acc (ix2 r d) = if s = e
      then down (fun j => hid (ix2 r j)) (fun d j => eout (ix2 d j)) (fun d => bout (ix2 e d)) d
        * weight (logit (fun k => cls (ix2 r k)) (fun k => gd (ix2 r k))) else acc (ix2 r d) := by
  rw [← weight_apply, ← out_apply e _ hi, ← pick, ← hs, ← hi]
  pointwise [accNext, k0_pay28, k0_pay26]

/-- Row `r` of the batch: the class token of batch entry `b`, number `n`. -/
abbrev rowOf (b : Fin 4) (n : Fin 6) : Fin 32 := ⟨b.val * 8 + n.val, by omega⟩

theorem src_word (v : IVec S32x1 1) (b : Fin 4) (n : Fin 6) :
    k0_pay9 v k0_pay5 k0_pay6 2#32 k0_pay7 k0_pay8 (Scalar.extui (Scalar.cmpi .sgt 2#32 0#32)) (ix2 (rowOf b n) (0 : Fin 1))
      = if v (ix2 (rowOf b n) (0 : Fin 1)) = 1#1 then BitVec.ofNat 32 (left n).val else BitVec.ofNat 32 (right n).val := by
  have h1 : ∀ b : Fin 4, ∀ n : Fin 6, k0_pay9 (fun _ => 1#1) k0_pay5 k0_pay6 2#32 k0_pay7 k0_pay8
      (Scalar.extui (Scalar.cmpi .sgt 2#32 0#32)) (ix2 (rowOf b n) (0 : Fin 1)) = BitVec.ofNat 32 (left n).val := by decide +kernel
  have h0 : ∀ b : Fin 4, ∀ n : Fin 6, k0_pay9 (fun _ => 0#1) k0_pay5 k0_pay6 2#32 k0_pay7 k0_pay8
      (Scalar.extui (Scalar.cmpi .sgt 2#32 0#32)) (ix2 (rowOf b n) (0 : Fin 1)) = BitVec.ofNat 32 (right n).val := by decide +kernel
  have hv : k0_pay9 v k0_pay5 k0_pay6 2#32 k0_pay7 k0_pay8 (Scalar.extui (Scalar.cmpi .sgt 2#32 0#32)) (ix2 (rowOf b n) (0 : Fin 1))
      = k0_pay9 (fun _ => v (ix2 (rowOf b n) (0 : Fin 1))) k0_pay5 k0_pay6 2#32 k0_pay7 k0_pay8
          (Scalar.extui (Scalar.cmpi .sgt 2#32 0#32)) (ix2 (rowOf b n) (0 : Fin 1)) := rfl
  rw [hv]
  rcases BitVec.eq_zero_or_eq_one (v (ix2 (rowOf b n) (0 : Fin 1))) with h | h <;> rw [h]
  · exact h0 b n
  · exact h1 b n

theorem dst_word (v : IVec S32x1 1) (b : Fin 4) (n : Fin 6) :
    k0_pay18 v k0_pay14 k0_pay15 2#32 k0_pay16 k0_pay17 0#32 (ix2 (rowOf b n) (0 : Fin 1))
      = if v (ix2 (rowOf b n) (0 : Fin 1)) = 1#1 then BitVec.ofNat 32 (right n).val else BitVec.ofNat 32 (left n).val := by
  have h1 : ∀ b : Fin 4, ∀ n : Fin 6, k0_pay18 (fun _ => 1#1) k0_pay14 k0_pay15 2#32 k0_pay16 k0_pay17 0#32
      (ix2 (rowOf b n) (0 : Fin 1)) = BitVec.ofNat 32 (right n).val := by decide +kernel
  have h0 : ∀ b : Fin 4, ∀ n : Fin 6, k0_pay18 (fun _ => 0#1) k0_pay14 k0_pay15 2#32 k0_pay16 k0_pay17 0#32
      (ix2 (rowOf b n) (0 : Fin 1)) = BitVec.ofNat 32 (left n).val := by decide +kernel
  have hv : k0_pay18 v k0_pay14 k0_pay15 2#32 k0_pay16 k0_pay17 0#32 (ix2 (rowOf b n) (0 : Fin 1))
      = k0_pay18 (fun _ => v (ix2 (rowOf b n) (0 : Fin 1))) k0_pay14 k0_pay15 2#32 k0_pay16 k0_pay17 0#32
          (ix2 (rowOf b n) (0 : Fin 1)) := rfl
  rw [hv]
  rcases BitVec.eq_zero_or_eq_one (v (ix2 (rowOf b n) (0 : Fin 1))) with h | h <;> rw [h]
  · exact h0 b n
  · exact h1 b n

end Cert.KernelIdeal.Hand

end
-- ==== Proof.Value.Arrays.lean ====
/-
  What the windows' blocks hold, as reads of the arguments.
-/
module

public import proofs.«01_k».proof.Proof.Value.Block
public import proofs.«01_k».proof.Proof.Body.Launch

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-! ## The arguments at coordinates -/

abbrev aX (b : Fin 4) (s : Fin 2048) (k : Fin 768) : EReal := m ((c : Thread nD τ).loc main_arg0) (ix3 b s k)
abbrev aW1 (j : Fin 3072) (k : Fin 768) : EReal := m ((c : Thread nD τ).loc main_arg1) (ix2 j k)
abbrev aB1 (j : Fin 3072) : EReal := m ((c : Thread nD τ).loc main_arg2) (ix1 j)
abbrev aW2 (d : Fin 768) (j : Fin 3072) : EReal := m ((c : Thread nD τ).loc main_arg3) (ix2 d j)
abbrev aB2 (d : Fin 768) : EReal := m ((c : Thread nD τ).loc main_arg4) (ix1 d)
abbrev aG (n : Fin 6) (k : Fin 768) : EReal := m ((c : Thread nD τ).loc main_arg5) (ix2 n k)
abbrev aIn (e : Fin 5) (j : Fin 3072) (k : Fin 768) : EReal := m ((c : Thread nD τ).loc main_arg6) (ix3 e j k)
abbrev aBin (e : Fin 5) (j : Fin 3072) : EReal := m ((c : Thread nD τ).loc main_arg7) (ix2 e j)
abbrev aOut (e : Fin 5) (d : Fin 768) (j : Fin 3072) : EReal := m ((c : Thread nD τ).loc main_arg8) (ix3 e d j)
abbrev aBout (e : Fin 5) (d : Fin 768) : EReal := m ((c : Thread nD τ).loc main_arg9) (ix2 e d)

/-- The number of the row tile that a grid point holds. -/
def tileNo (t : ℕ) : ℕ := if t < 12 then t / 3 * 4 + t % 3 + 1 else (t - 12) * 4

theorem idx : ∀ t : Fin cfg0.N, win0_0.index t = ![tileNo t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![tileNo t.val, 0] :=
  (by decide +kernel : ∀ t : Fin grid0.N, _)

theorem tileNo_lt : ∀ t : Fin cfg0.N, tileNo t.val < 16 := (by decide +kernel : ∀ t : Fin grid0.N, _)

/-! ## The blocks -/

theorem blk1 (t : Fin cfg0.N) (j : Fin 3072) (k : Fin 768) : iblk m c 1 t (ix2 j k) = aW1 m c j k := by
  blk_ext [iblk, V, idx t]
theorem blk3 (t : Fin cfg0.N) (d : Fin 768) (j : Fin 3072) : iblk m c 3 t (ix2 d j) = aW2 m c d j := by
  blk_ext [iblk, V, idx t]
theorem blk7 (t : Fin cfg0.N) (e : Fin 5) (j : Fin 3072) : iblk m c 7 t (ix2 e j) = aBin m c e j := by
  blk_ext [iblk, V, idx t]
theorem blk8 (t : Fin cfg0.N) (e : Fin 5) (d : Fin 768) : iblk m c 8 t (ix2 e d) = aBout m c e d := by
  blk_ext [iblk, V, idx t]
theorem blk2 (t : Fin cfg0.N) (j : Fin 3072) : iblk m c 2 t (ix2 (0 : Fin 1) j) = aB1 m c j := by
  have h : iblk m c 2 t (ix2 (0 : Fin 1) j) = V m c main_call0_v7 (ix2 (0 : Fin 1) j) := by blk_ext [iblk, idx t]
  rw [h]
  simp only [V, V0, List.flatten_cons, List.flatten_nil, List.append_nil]
  entry_read
  pointwise
theorem blk4 (t : Fin cfg0.N) (d : Fin 768) : iblk m c 4 t (ix2 (0 : Fin 1) d) = aB2 m c d := by
  have h : iblk m c 4 t (ix2 (0 : Fin 1) d) = V m c main_call0_v8 (ix2 (0 : Fin 1) d) := by blk_ext [iblk, idx t]
  rw [h]
  simp only [V, V0, List.flatten_cons, List.flatten_nil, List.append_nil]
  entry_read
  pointwise
theorem blk5 (t : Fin cfg0.N) (b : Fin 4) (n : Fin 6) (k : Fin 768) :
    iblk m c 5 t (ix2 (rowOf b n) k) = aX m c b ⟨n.val, by omega⟩ k := by
  have h : iblk m c 5 t (ix2 (rowOf b n) k) = V m c main_call0_v2 (ix2 (rowOf b n) k) := by blk_ext [iblk, idx t]
  rw [h]
  simp only [V, V0, List.flatten_cons, List.flatten_nil, List.append_nil]
  entry_read
  simp -implicitDefEqProofs only [StableHlo.TRef.toBuf, StableHlo.TRef.ofBuf, cast_cast, cast_eq]
  pointwise
  blk_ext
theorem blk6 (t : Fin cfg0.N) (b : Fin 4) (n : Fin 6) (k : Fin 768) :
    iblk m c 6 t (ix2 (rowOf b n) k) = aG m c n k := by
  have h : iblk m c 6 t (ix2 (rowOf b n) k) = V m c main_call0_v6 (ix2 (rowOf b n) k) := by blk_ext [iblk, idx t]
  rw [h]
  simp only [V, V0, List.flatten_cons, List.flatten_nil, List.append_nil]
  entry_read
  simp -implicitDefEqProofs only [StableHlo.TRef.toBuf, StableHlo.TRef.ofBuf, cast_cast, cast_eq]
  pointwise
  rw [dif_pos (by omega)]
  blk_ext
theorem blk0 (t : Fin cfg0.N) (i : Fin 512) (k : Fin 768) :
    iblk m c 0 t (ix2 i k) = aX m c ⟨tileNo t.val / 4, by have := tileNo_lt t; omega⟩ ⟨tileNo t.val % 4 * 512 + i.val, by omega⟩ k := by
  have hT := tileNo_lt t
  have h : iblk m c 0 t (ix2 i k) = V m c main_call0_v0 (ix2 (⟨tileNo t.val * 512 + i.val, by omega⟩ : Fin 8192) k) := by
    blk_ext [iblk, idx t]
  rw [h]
  simp only [V, V0, List.flatten_cons, List.flatten_nil, List.append_nil]
  entry_read
  pointwise
  blk_ext

end Cert.KernelIdeal.Hand

end
-- ==== Proof.Value.Stages.lean ====
/-
  What the stages leave after the last expert, the tiles, and the array that the region writes.
-/
module

public import proofs.«01_k».proof.Proof.Value.Arrays

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

theorem stage_in : ∀ e : Fin 5, wStage (grid0.coords (tp (e.val + 1))) = BitVec.ofNat 32 e.val := by decide +kernel
theorem stage_out : ∀ e : Fin 5, wOut (grid0.coords (tp (e.val + 6))) = BitVec.ofNat 32 e.val := by decide +kernel

theorem slab_in (e : Fin 5) (j : Fin 3072) (k : Fin 768) : slabI (tblI m c) e (ix2 j k) = aIn m c e j k := by
  show V m c main_arg6 _ = _
  rw [V_main_arg6]; rfl
theorem slab_out (e : Fin 5) (d : Fin 768) (j : Fin 3072) : slabO (tblO m c) e (ix2 d j) = aOut m c e d j := by
  show V m c main_arg8 _ = _
  rw [V_main_arg8]; rfl

/-- A class token's row, its gate row and its logit. -/
abbrev tok (b : Fin 4) (n : Fin 6) (k : Fin 768) : EReal := aX m c b ⟨n.val, by omega⟩ k
abbrev lg (b : Fin 4) (n : Fin 6) : EReal := logit (tok m c b n) (aG m c n)
/-- The expert that a class token takes inward, and the one that it takes outward. -/
def src (b : Fin 4) (n : Fin 6) : Fin 5 := if 0 ≤ lg m c b n then left n else right n
def dst (b : Fin 4) (n : Fin 6) : Fin 5 := if 0 ≤ lg m c b n then right n else left n

theorem src_at (t : Fin cfg0.N) (b : Fin 4) (n : Fin 6) :
    srcW (iblk m c 5 t) (iblk m c 6 t) (ix2 (rowOf b n) (0 : Fin 1)) = BitVec.ofNat 32 (src m c b n).val := by
  rw [srcW, src_word, left_apply]
  simp only [blk5, blk6]
  unfold src lg tok
  by_cases h : 0 ≤ logit (fun k => aX m c b ⟨n.val, by omega⟩ k) (fun k => aG m c n k)
  · rw [if_pos h, if_pos rfl, if_pos h]
  · rw [if_neg h, if_neg (by decide), if_neg h]
theorem dst_at (t : Fin cfg0.N) (b : Fin 4) (n : Fin 6) :
    dstW (iblk m c 5 t) (iblk m c 6 t) (ix2 (rowOf b n) (0 : Fin 1)) = BitVec.ofNat 32 (dst m c b n).val := by
  rw [dstW, dst_word, left_apply']
  simp only [blk5, blk6]
  unfold dst lg tok
  by_cases h : 0 ≤ logit (fun k => aX m c b ⟨n.val, by omega⟩ k) (fun k => aG m c n k)
  · rw [if_pos h, if_pos rfl, if_pos h]
  · rw [if_neg h, if_neg (by decide), if_neg h]

/-- A class token's hidden row through its expert. -/
abbrev hidOf (b : Fin 4) (n : Fin 6) (e : Fin 5) (j : Fin 3072) : EReal := up (tok m c b n) (aIn m c e) (aBin m c e) j
/-- A class token's result through its expert, weighted. -/
abbrev accOf (b : Fin 4) (n : Fin 6) (e : Fin 5) (d : Fin 768) : EReal :=
  down (hidOf m c b n (src m c b n)) (aOut m c e) (aBout m c e) d * weight (lg m c b n)

/-- Keeping one stage's value: what a chain of selections holds after stage `n + 1`. -/
theorem keep (s : Fin 5) (n : ℕ) (h : n + 1 < 5) (v : Fin 5 → EReal) :
    (if s = ⟨n + 1, h⟩ then v ⟨n + 1, h⟩ else if s.val ≤ n then v s else 0) = if s.val ≤ n + 1 then v s else 0 := by
  by_cases h1 : s = ⟨n + 1, h⟩
  · subst h1; rw [if_pos rfl, if_pos (le_refl _)]
  · have h2 : s.val ≠ n + 1 := fun h' => h1 (Fin.ext h')
    rw [if_neg h1]
    exact if_congr ⟨fun _ => by omega, fun _ => by omega⟩ rfl rfl
theorem keep_first (s : Fin 5) (v : Fin 5 → EReal) :
    (if s = 0 then v 0 else 0) = if s.val ≤ 0 then v s else 0 := by
  by_cases h1 : s = 0
  · subst h1; rfl
  · rw [if_neg h1, if_neg (by intro h; exact h1 (Fin.ext (by simpa using h)))]

theorem hid_upto (b : Fin 4) (n : Fin 6) (j : Fin 3072) : ∀ k : ℕ, k < 5 →
    hidAt m c k (ix2 (rowOf b n) j) = if (src m c b n).val ≤ k then hidOf m c b n (src m c b n) j else 0
  | 0, _ => by
    rw [← keep_first _ fun e => hidOf m c b n e j, hidAt, hid_init 0 _ (show wStage (grid0.coords (tp 1)) = BitVec.ofNat 32 (0 : Fin 5).val from stage_in 0) _ _ _ _ _ _ (src_at m c _ b n)]
    simp only [blk5, blk7]
    exact congrArg (fun W => ite _ (up (tok m c b n) W _ j) _) (funext fun j => funext fun k => slab_in m c _ j k)
  | k + 1, h => by
    have he : Fin.ofNat 5 (k + 1) = (⟨k + 1, h⟩ : Fin 5) := Fin.ext (Nat.mod_eq_of_lt h)
    rw [← keep _ _ h fun e => hidOf m c b n e j, hidAt,
      hid_next ⟨k + 1, h⟩ _ (stage_in ⟨k + 1, h⟩) _ _ _ _ _ _ _ (src_at m c _ b n), hid_upto b n j k (by omega), he]
    simp only [blk5, blk7]
    exact congrArg (fun W => ite _ (up (tok m c b n) W _ j) _) (funext fun j => funext fun k => slab_in m c _ j k)

theorem hid_last (b : Fin 4) (n : Fin 6) (j : Fin 3072) :
    hidAt m c 4 (ix2 (rowOf b n) j) = hidOf m c b n (src m c b n) j := by
  rw [hid_upto m c b n j 4 (by omega), if_pos (by have := (src m c b n).isLt; omega)]

theorem acc_upto (b : Fin 4) (n : Fin 6) (d : Fin 768) : ∀ k : ℕ, k < 5 →
    accAt m c k (ix2 (rowOf b n) d) = if (dst m c b n).val ≤ k then accOf m c b n (dst m c b n) d else 0
  | 0, _ => by
    rw [← keep_first _ fun e => accOf m c b n e d, accAt, acc_init 0 _ (show wOut (grid0.coords (tp 6)) = BitVec.ofNat 32 (0 : Fin 5).val from stage_out 0) _ _ _ _ _ _ _ (dst_at m c _ b n)]
    simp only [blk5, blk6, blk8, hid_last]
    exact congrArg (fun W => ite _ (down (hidOf m c b n (src m c b n)) W _ d * weight (lg m c b n)) _)
      (funext fun d => funext fun j => slab_out m c _ d j)
  | k + 1, h => by
    have he : Fin.ofNat 5 (k + 1) = (⟨k + 1, h⟩ : Fin 5) := Fin.ext (Nat.mod_eq_of_lt h)
    rw [← keep _ _ h fun e => accOf m c b n e d, accAt,
      acc_next ⟨k + 1, h⟩ _ (stage_out ⟨k + 1, h⟩) _ _ _ _ _ _ _ _ (dst_at m c _ b n), acc_upto b n d k (by omega), he]
    simp only [blk5, blk6, blk8, hid_last]
    exact congrArg (fun W => ite _ (down (hidOf m c b n (src m c b n)) W _ d * weight (lg m c b n)) _)
      (funext fun d => funext fun j => slab_out m c _ d j)

/-- The kept row of a class token is the token's result. -/
theorem acc_last (b : Fin 4) (n : Fin 6) (d : Fin 768) :
    accAt m c 4 (ix2 (rowOf b n) d) = token (tok m c b n) (aG m c n) (aIn m c) (aBin m c) (aOut m c) (aBout m c) n d := by
  rw [acc_upto m c b n d 4 (by omega), if_pos (by have := (dst m c b n).isLt; omega)]
  unfold token pair accOf hidOf src dst
  by_cases h : 0 ≤ lg m c b n
  · simp only [if_pos h]
  · simp only [if_neg h]

/-- A tile's row is its row of the dense layers. -/
theorem tile_at (t : Fin cfg0.N) (i : Fin 512) (d : Fin 768) :
    tileAt m c t (ix2 i d) = down (up (aX m c ⟨tileNo t.val / 4, by have := tileNo_lt t; omega⟩ ⟨tileNo t.val % 4 * 512 + i.val, by omega⟩)
      (aW1 m c) (aB1 m c)) (aW2 m c) (aB2 m c) d := by
  unfold tileAt
  rw [tile_apply]
  have h1 : ∀ j k, nw1 m c (ix2 j k) = aW1 m c j k := fun j k => by
    rw [← blk1 m c (tp 0)]; unfold nw1; pointwise [k0_pay2]
  have h2 : ∀ d j, nw2 m c (ix2 d j) = aW2 m c d j := fun d j => by
    rw [← blk3 m c (tp 0)]; unfold nw2; pointwise [k0_pay3]
  simp only [h1, h2, blk0, blk2, blk4]

end Cert.KernelIdeal.Hand

end
-- ==== Proof.Value.Final.lean ====
/-
  The array that the region writes, and the result.
-/
module

public import proofs.«01_k».proof.Proof.Value.Stages

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-- The result at batch entry `b`, row `s`, column `d`. -/
def res (b : Fin 4) (s : Fin 2048) (d : Fin 768) : EReal :=
  value (aX m c) (aW1 m c) (aB1 m c) (aW2 m c) (aB2 m c) (aG m c) (aIn m c) (aBin m c) (aOut m c) (aBout m c) b s d

theorem top_iff : ∀ t : Fin cfg0.N, k0_cond10 (grid0.coords t) = 1#1 ↔ 12 ≤ t.val :=
  (by decide +kernel : ∀ t : Fin grid0.N, k0_cond10 (grid0.coords t) = 1#1 ↔ 12 ≤ t.val)
theorem top_off : ∀ t : Fin cfg0.N, 12 ≤ t.val → k0_off33 (grid0.coords t) = ![(t.val - 12) * 8, 0] :=
  (by decide +kernel : ∀ t : Fin grid0.N, 12 ≤ t.val → k0_off33 (grid0.coords t) = ![(t.val - 12) * 8, 0])
theorem tileNo_low : ∀ t : Fin cfg0.N, t.val < 12 → tileNo t.val % 4 ≠ 0 :=
  (by decide +kernel : ∀ t : Fin grid0.N, t.val < 12 → tileNo t.val % 4 ≠ 0)

theorem below_six : ∀ r : Fin 8, IntOp.cmpi CmpIPredicate.slt (BitVec.ofNat 32 r.val) 6#32 = if r.val < 6 then 1#1 else 0#1 := by decide

theorem top_apply (y : Vec Ideal S512x768 .f32) (a : Vec Ideal S8x768 .f32) (i : Fin 512) (d : Fin 768) :
    VecWindow.put y ![0, 0] S8x768.size (k0_pay1 y a) (ix2 i d)
      = if h : i.val < 6 then a (ix2 (⟨i.val, by omega⟩ : Fin 8) d) else y (ix2 i d) := by
  rw [VecWindow.put_eq_updateSlice _ _ _ inb_S512x768_S8x768_0_0]
  pointwise [k0_pay1]
  by_cases h8 : i.val < 8
  · have hs := below_six ⟨i.val, h8⟩
    simp only [] at hs
    rw [dif_pos h8, hs]
    by_cases h6 : i.val < 6
    · rw [if_pos h6, dif_pos h6]; rfl
    · rw [if_neg h6, dif_neg h6]; rfl
  · rw [dif_neg h8, dif_neg (by omega)]

theorem out_at (t : Fin cfg0.N) (i : Fin 512) (d : Fin 768) :
    outAt m c t (ix2 i d) = res m c ⟨tileNo t.val / 4, by have := tileNo_lt t; omega⟩ ⟨tileNo t.val % 4 * 512 + i.val, by omega⟩ d := by
  unfold res value
  by_cases ht : 12 ≤ t.val
  · have hN : tileNo t.val = (t.val - 12) * 4 := if_neg (by omega)
    unfold outAt
    rw [dif_pos ((top_iff t).2 ht)]
    unfold tileTop
    rw [top_apply, tile_at]
    by_cases hi : i.val < 6
    · rw [dif_pos hi, dif_pos (by show tileNo t.val % 4 * 512 + i.val < 6; omega)]
      have hb : t.val - 12 < 4 := by have : t.val < 16 := t.isLt; omega
      have hw : VecWindow.window (accAt m c 4) (k0_off33 (grid0.coords t)) S8x768.size (k0_off33_inb _ ((top_iff t).2 ht))
          (ix2 (⟨i.val, by omega⟩ : Fin 8) d) = accAt m c 4 (ix2 (rowOf ⟨t.val - 12, hb⟩ ⟨i.val, hi⟩) d) := by
        have ho := top_off t ht
        unfold VecWindow.window
        refine congrArg _ (funext fun a => Fin.ext ?_)
        have h0 := congrFun ho 0
        have h1 := congrFun ho 1
        match a with
        | 0 => show k0_off33 (grid0.coords t) 0 + 1 * i.val = (t.val - 12) * 8 + i.val; rw [h0]; show (t.val - 12) * 8 + 1 * i.val = _; omega
        | 1 => show k0_off33 (grid0.coords t) 1 + 1 * d.val = d.val; rw [h1]; show 0 + 1 * d.val = _; omega
      rw [hw, acc_last]
      have e1 : (⟨t.val - 12, hb⟩ : Fin 4) = ⟨tileNo t.val / 4, by have := tileNo_lt t; omega⟩ := Fin.ext (by show t.val - 12 = tileNo t.val / 4; omega)
      have e2 : tileNo t.val % 4 * 512 + i.val = i.val := by omega
      simp only [e1, e2]
    · rw [dif_neg hi, dif_neg (by show ¬ tileNo t.val % 4 * 512 + i.val < 6; omega)]
  · have := tileNo_low t (by omega)
    unfold outAt
    rw [dif_neg (fun h => ht ((top_iff t).1 h)), tile_at, dif_neg (by show ¬ tileNo t.val % 4 * 512 + i.val < 6; omega)]

/-- The array of rows that the region leaves. -/
def rows : Vec Ideal S8192x768 .f32 :=
  fun R => res m c ⟨(R 0).val / 2048, by have : (R 0).val < 8192 := (R 0).isLt; omega⟩ ⟨(R 0).val % 2048, by omega⟩ (R 1)

theorem out_rows (t : Fin cfg0.N) (i : Fin 512) (d : Fin 768) (h : tileNo t.val * 512 + i.val < 8192) :
    outAt m c t (ix2 i d) = rows m c (ix2 (⟨tileNo t.val * 512 + i.val, h⟩ : Fin 8192) d) := by
  rw [out_at]
  show _ = res m c ⟨(tileNo t.val * 512 + i.val) / 2048, _⟩ ⟨(tileNo t.val * 512 + i.val) % 2048, _⟩ d
  have e1 : tileNo t.val / 4 = (tileNo t.val * 512 + i.val) / 2048 := by omega
  have e2 : tileNo t.val % 4 * 512 + i.val = (tileNo t.val * 512 + i.val) % 2048 := by omega
  simp only [e1, e2]

theorem after9 (t : Fin cfg0.N) : (dats m 0 c).after 9 t = outAt m c t := rfl

/-- The region's output array. -/
theorem final : (dats m 0 c).arrAt 9 (cfgs 0).N = rows m c := by
  refine (dats m 0 c).arrAt_eq_of_covers 9 _ (by decide +kernel) fun t hf y => ?_
  have hT := tileNo_lt t
  blk_simp
  rw [after9]
  idx_vars y
  refine (out_rows m c t y0 y1 (by omega)).trans (congrArg (rows m c) ?_)
  blk_ext [idx t]

/-- The result array after the run. -/
theorem result {r : PUnit × MemSt nD τ sig (Elt Ideal)} (h : RunPost m r) (b : Fin 4) (s : Fin 2048) (d : Fin 768) :
    r.2.mem ((c : Thread nD τ).loc main_v0) (ix3 b s d) = res m c b s d := by
  rw [(h.1 c).2 main_v0 (Pipeline.mem_restRefs_of main_v0 (by decide) (by decide))]
  unfold Pipeline.afterTail₀
  simp only [List.flatten_cons, List.flatten_nil, List.append_nil]
  have hw : Pipeline.withArrays (cfgs 0).spec c (V0 m c) (fun w => (dats m 0 c).arrAt w (cfgs 0).N) (Proc.devRef .tc main_call0_v9)
      = (dats m 0 c).arrAt 9 (cfgs 0).N  :=
    Pipeline.withArrays_arr spec0 launch0.win.arr_inj c (V0 m c) (fun w => (dats m 0 c).arrAt w (cfgs 0).N) 9
  entry_read
  rw [hw, final]
  pointwise
  show res m c ⟨(b.val * 2048 + s.val) / 2048, _⟩ ⟨(b.val * 2048 + s.val) % 2048, _⟩ d = _
  have e1 : (b.val * 2048 + s.val) / 2048 = b.val := by omega
  have e2 : (b.val * 2048 + s.val) % 2048 = s.val := by omega
  simp only [e1, e2]

end Cert.KernelIdeal.Hand

end
-- ==== Proof.Value.Ref.lean ====
/-
  The reference's composed terms, read at an index.
-/
module

public import proofs.«01_k».proof.Proof.Value.Spec
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.StableHlo Idealize.SL.Sem

variable (V : Valuation τ sig (Elt Ideal))

/-! ## The arguments at coordinates -/

abbrev rX (b : Fin 4) (s : Fin 2048) (k : Fin 768) : EReal := V (Proc.devRef .tc main_arg0) (ix3 b s k)
abbrev rW1 (j : Fin 3072) (k : Fin 768) : EReal := V (Proc.devRef .tc main_arg1) (ix2 j k)
abbrev rB1 (j : Fin 3072) : EReal := V (Proc.devRef .tc main_arg2) (ix1 j)
abbrev rW2 (d : Fin 768) (j : Fin 3072) : EReal := V (Proc.devRef .tc main_arg3) (ix2 d j)
abbrev rB2 (d : Fin 768) : EReal := V (Proc.devRef .tc main_arg4) (ix1 d)
abbrev rG (n : Fin 6) (k : Fin 768) : EReal := V (Proc.devRef .tc main_arg5) (ix2 n k)
abbrev rIn (e : Fin 5) (j : Fin 3072) (k : Fin 768) : EReal := V (Proc.devRef .tc main_arg6) (ix3 e j k)
abbrev rBin (e : Fin 5) (j : Fin 3072) : EReal := V (Proc.devRef .tc main_arg7) (ix2 e j)
abbrev rOut (e : Fin 5) (d : Fin 768) (j : Fin 3072) : EReal := V (Proc.devRef .tc main_arg8) (ix3 e d j)
abbrev rBout (e : Fin 5) (d : Fin 768) : EReal := V (Proc.devRef .tc main_arg9) (ix2 e d)

/-- The GELU as the reference spells it, by the complementary error function. -/
theorem gelu_erfc (v : EReal) :
    ((1 / 2 : ℝ) : EReal) * v * Ideal.erfc (-v * root) = gelu v := by
  rw [EReal.neg_mul, Ideal.erfc_neg]; rfl

/-- The row of the flat class tokens. -/
abbrev flat (b : Fin 4) (n : Fin 6) : Fin 24 := ⟨b.val * 6 + n.val, by omega⟩
abbrev rTok (b : Fin 4) (n : Fin 6) (k : Fin 768) : EReal := rX V b ⟨n.val, by omega⟩ k
abbrev rLg (b : Fin 4) (n : Fin 6) : EReal := logit (rTok V b n) (rG V n)

theorem logit_at (b : Fin 4) (n : Fin 6) : res_main_v20 V (ix2 b n) = rLg V b n := by
  pointwise [res_main_v20, res_main_v0, logit]
  exact Finset.sum_congr (M := EReal) rfl fun k _ => mul_comm (G := EReal) _ _

theorem flat_div (b : Fin 4) (n : Fin 6) (h : (b.val * 6 + n.val) / 6 < 4) : (⟨(b.val * 6 + n.val) / 6, h⟩ : Fin 4) = b :=
  Fin.ext (by show _ / 6 = _; omega)
theorem flat_mod (b : Fin 4) (n : Fin 6) (h : (b.val * 6 + n.val) % 6 < 6) : (⟨(b.val * 6 + n.val) % 6, h⟩ : Fin 6) = n :=
  Fin.ext (by show _ % 6 = _; omega)

theorem left_key : ∀ n : Fin 6, lit0 (S6.rowMajor (ix1 n)) = BitVec.ofNat 32 ((left n).val * 5 + (right n).val) := by decide
theorem right_key : ∀ n : Fin 6, lit1 (S6.rowMajor (ix1 n)) = BitVec.ofNat 32 ((right n).val * 5 + (left n).val) := by decide

theorem key_at (b : Fin 4) (n : Fin 6) : res_main_v38 V (ix1 (flat b n))
    = if 0 ≤ rLg V b n then BitVec.ofNat 32 ((left n).val * 5 + (right n).val) else BitVec.ofNat 32 ((right n).val * 5 + (left n).val) := by
  pointwise [res_main_v38, res_main_v22]
  simp only [flat_div, flat_mod, logit_at, left_key, right_key]

theorem weight_at (b : Fin 4) (n : Fin 6) : res_main_v39 V (ix2 (flat b n) (0 : Fin 1)) = weight (rLg V b n) := by
  pointwise [res_main_v39, res_main_v22, res_main_v28]
  simp only [flat_div, flat_mod, logit_at]
  rfl

/-- The twelve routes' selection by a key, the last route outermost. -/
def chain (w : BitVec 32) (L : Fin 5 → Fin 5 → EReal) : EReal :=
  let pickAt (k : BitVec 32) (v rest : EReal) : EReal := Scalar.select (IntOp.cmpi CmpIPredicate.eq w k) v rest
  pickAt 22#32 (L 4 2) <| pickAt 21#32 (L 4 1) <| pickAt 20#32 (L 4 0) <| pickAt 17#32 (L 3 2) <| pickAt 16#32 (L 3 1) <|
  pickAt 15#32 (L 3 0) <| pickAt 14#32 (L 2 4) <| pickAt 13#32 (L 2 3) <| pickAt 9#32 (L 1 4) <| pickAt 8#32 (L 1 3) <|
  pickAt 4#32 (L 0 4) <| pickAt 3#32 (L 0 3) 0

theorem chain_left (n : Fin 6) (L : Fin 5 → Fin 5 → EReal) :
    chain (BitVec.ofNat 32 ((left n).val * 5 + (right n).val)) L = L (left n) (right n) := by
  fin_cases n <;> rfl
theorem chain_right (n : Fin 6) (L : Fin 5 → Fin 5 → EReal) :
    chain (BitVec.ofNat 32 ((right n).val * 5 + (left n).val)) L = L (right n) (left n) := by
  fin_cases n <;> rfl

/-- A flat class token through one route. -/
theorem mixed_at (b : Fin 4) (n : Fin 6) (d : Fin 768) :
    res_main_v412 V (ix2 (flat b n) d) = chain (res_main_v38 V (ix1 (flat b n)))
      fun a e => pair (rTok V b n) (rIn V) (rBin V) (rOut V) (rBout V) (weight (rLg V b n)) a e d := by
  pointwise [res_main_v412, res_main_v288, res_main_v164, res_main_v52, res_main_v83, res_main_v114, res_main_v145,
    res_main_v176, res_main_v207, res_main_v238, res_main_v269, res_main_v300, res_main_v331, res_main_v362, res_main_v393,
    res_main_v37, res_main_v0, chain, pair, down, up]
  have e : (b.val * 6 + n.val) % 6 = n.val := by omega
  simp only [half_f32, root_f32, gelu_erfc, weight_at, flat_div, e]

/-- A flat class token's row of the selections is the token's result. -/
theorem token_at (b : Fin 4) (n : Fin 6) (d : Fin 768) :
    res_main_v412 V (ix2 (flat b n) d) = token (rTok V b n) (rG V n) (rIn V) (rBin V) (rOut V) (rBout V) n d := by
  rw [mixed_at, key_at]
  unfold token
  by_cases h : 0 ≤ rLg V b n
  · rw [if_pos h, chain_left, if_pos h]
  · rw [if_neg h, chain_right, if_neg h]

/-- The reference's result at coordinates. -/
abbrev out (b : Fin 4) (s : Fin 2048) (d : Fin 768) : EReal :=
  value (rX V) (rW1 V) (rB1 V) (rW2 V) (rB2 V) (rG V) (rIn V) (rBin V) (rOut V) (rBout V) b s d

/-- The reference's run: its result at coordinates, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 4) (s : Fin 2048) (d : Fin 768),
        r.2.mem ((c.tc : Thread nD τ).loc main_v414) (ix3 b s d) = out (launchContents m c) b s d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨fun b s d => ?_, (h c).2⟩) (Value.run m ρ)
  rw [(h c).1]
  generalize launchContents m c = V
  pointwise [res_main_v6]
  unfold out value
  by_cases h6 : s.val < 6
  · rw [dif_pos h6, dif_pos h6]
    exact token_at V b ⟨s.val, h6⟩ d
  · rw [dif_neg h6, dif_neg h6]
    have e : 6 + (s.val - 6) = s.val := by omega
    simp only [half_f32, root_f32, gelu_erfc, e]
    rfl

end Cert.ReferenceIdeal.Hand

end
-- ==== Proof.Value.Agree.lean ====
/-
  The two programs' results agree where their arguments do.
-/
module

public import proofs.«01_k».proof.Proof.Value.Final
public import proofs.«01_k».proof.Proof.Value.Ref

@[expose] public section

set_option maxRecDepth 16384

noncomputable section

namespace Cert.Proof

open Idealize.ShloMosaic Idealize.ShloMosaic.TcCoe Idealize.SL.Sem
open Cert.KernelIdeal.Hand Cert.ReferenceIdeal.Hand

/-- One value for both programs: the reference's at the reference's arguments, the kernel's at the kernel's. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (b : Fin 4) (s : Fin 2048) (d : Fin 768) : out (StableHlo.launchContents m' c) b s d = res m c b s d := by
  have e0 : rX (StableHlo.launchContents m' c) = aX m c := by
    funext b s k; exact congrFun h0 (ix3 b s k)
  have e1 : rW1 (StableHlo.launchContents m' c) = aW1 m c := by
    funext j k; exact congrFun h1 (ix2 j k)
  have e2 : rB1 (StableHlo.launchContents m' c) = aB1 m c := by
    funext j; exact congrFun h2 (ix1 j)
  have e3 : rW2 (StableHlo.launchContents m' c) = aW2 m c := by
    funext d j; exact congrFun h3 (ix2 d j)
  have e4 : rB2 (StableHlo.launchContents m' c) = aB2 m c := by
    funext d; exact congrFun h4 (ix1 d)
  have e5 : rG (StableHlo.launchContents m' c) = aG m c := by
    funext n k; exact congrFun h5 (ix2 n k)
  have e6 : rIn (StableHlo.launchContents m' c) = aIn m c := by
    funext e j k; exact congrFun h6 (ix3 e j k)
  have e7 : rBin (StableHlo.launchContents m' c) = aBin m c := by
    funext e j; exact congrFun h7 (ix2 e j)
  have e8 : rOut (StableHlo.launchContents m' c) = aOut m c := by
    funext e d j; exact congrFun h8 (ix3 e d j)
  have e9 : rBout (StableHlo.launchContents m' c) = aBout m c := by
    funext e d; exact congrFun h9 (ix2 e d)
  unfold out res
  rw [e0, e1, e2, e3, e4, e5, e6, e7, e8, e9]

end Cert.Proof

end
-- ==== Proof.lean ====
/- The proof of the claims: each cited from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import proofs.«01_k».proof.Proof.Device.Launch
public import proofs.«01_k».proof.Proof.Body.Launch
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The kernel's result array. -/
def outcome (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  fun y => Cert.KernelIdeal.Hand.res m c (y 0) (y 1) (y 2)

/-- The kernel computes the reference's result. -/
theorem algebraic : Cert.algebraic_KernelIdeal_ReferenceIdeal (hKernelIdeal := Cert.KernelIdeal.Gen.facts) (hReferenceIdeal := Cert.ReferenceIdeal.Gen.facts) := by
  intro m g m' g' _ hm
  refine ⟨outcome m, ?_, ?_⟩
  · refine (θ_run Cert.KernelIdeal.defs _ _).mono (fun r h c => ⟨funext fun y => ?_, Cert.KernelIdeal.Hand.args_of m h.1 c⟩)
      (Cert.KernelIdeal.Hand.run_main m g)
    obtain ⟨b, s, d, rfl⟩ : ∃ (b : Fin 4) (s : Fin 2048) (d : Fin 768), y = ix3 b s d := ⟨y 0, y 1, y 2, eq_ix3 y⟩
    exact Cert.KernelIdeal.Hand.result m c h b s d
  · refine (θ_run Cert.ReferenceIdeal.defs _ _).mono (fun r h c => ⟨funext fun y => ?_, (h c).2⟩) (Cert.ReferenceIdeal.Hand.run m' g')
    obtain ⟨b, s, d, rfl⟩ : ∃ (b : Fin 4) (s : Fin 2048) (d : Fin 768), y = ix3 b s d := ⟨y 0, y 1, y 2, eq_ix3 y⟩
    obtain ⟨h0, h1, h2, h3, h4, h5, h6, h7, h8, h9⟩ := hm c
    exact ((h c).1 b s d).trans (agree m m' c h0 h1 h2 h3 h4 h5 h6 h7 h8 h9 b s d)

/-- The certificate's claims, each cited from the module that proves it. -/
theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Hand.frame m g,
    ⟨IdealRules.named_const.statement Cert.KernelIdeal.κ "half_sqrt" .bf16 0x3F35#16 _ rfl,
     IdealRules.named_const.statement Cert.KernelIdeal.κ "half_sqrt" .f32 0x3F3504F3#32 _ rfl⟩,
    algebraic⟩

end Cert.Proof

end
